-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_codes_in_range [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal_pre_codes_in_range (hKernelIdeal := hKernelIdeal) (hReferenceIdeal := hReferenceIdeal) (hPre_codes_in_range := hPre_codes_in_range)
-- ==== Pre_codes_in_range.lean ====
abbrev S96x4096x32 : Shape := ⟨3, ![96, 4096, 32]⟩
abbrev S32x1024x8 : Shape := ⟨3, ![32, 1024, 8]⟩
abbrev S32x8x256 : Shape := ⟨3, ![32, 8, 256]⟩
abbrev S32x256 : Shape := ⟨2, ![32, 256]⟩
abbrev S_ : Shape := ⟨0, ![]⟩

class Facts : Prop where
  bcast_S_S96x4096x32 : S_.BroadcastsInDim S96x4096x32 (![] : Fin 0 → Fin S96x4096x32.rank)

variable [Facts]

def fn {F : FTy → Type} [FloatOps F] (main_arg0 : IVec S96x4096x32 32) (main_arg1 : IVec S32x1024x8 16) (main_arg2 : FVec F S32x8x256 .fp8e4m3) (main_arg3 : FVec F S32x256 .f32) (main_arg4 : FVec F S32x256 .f32) : IVec S96x4096x32 1 :=
  let main_c : IVec S_ 32 := constantI S_ 32 4294966272#32
  let main_v0 : IVec S96x4096x32 32 := broadcastInDim S96x4096x32 ![] bcast_S_S96x4096x32 main_c
  let main_v1 : IVec S96x4096x32 1 := cmpi .sge main_arg0 main_v0
  let main_c_0 : IVec S_ 32 := constantI S_ 32 1024#32
  let main_v2 : IVec S96x4096x32 32 := broadcastInDim S96x4096x32 ![] bcast_S_S96x4096x32 main_c_0
  let main_v3 : IVec S96x4096x32 1 := cmpi .slt main_arg0 main_v2
  let main_v4 : IVec S96x4096x32 1 := andi main_v1 main_v3
  main_v4
-- ==== Kernel.lean ====
abbrev S96x4096x32 : Shape := ⟨3, ![96, 4096, 32]⟩
abbrev S32x1024x8 : Shape := ⟨3, ![32, 1024, 8]⟩
abbrev S32x8x256 : Shape := ⟨3, ![32, 8, 256]⟩
abbrev S32x256 : Shape := ⟨2, ![32, 256]⟩
abbrev S96x32x4096 : Shape := ⟨3, ![96, 32, 4096]⟩
abbrev S4x8x8x128x4x2 : Shape := ⟨6, ![4, 8, 8, 128, 4, 2]⟩
abbrev S4x8x8x128x4 : Shape := ⟨5, ![4, 8, 8, 128, 4]⟩
abbrev S4x4x8x8x128 : Shape := ⟨5, ![4, 4, 8, 8, 128]⟩
abbrev S32x1x256 : Shape := ⟨3, ![32, 1, 256]⟩
abbrev S2x16x256 : Shape := ⟨3, ![2, 16, 256]⟩
abbrev S_ : Shape := ⟨0, ![]⟩
abbrev S2x256 : Shape := ⟨2, ![2, 256]⟩
abbrev S2x2x8x4x2x256 : Shape := ⟨6, ![2, 2, 8, 4, 2, 256]⟩
abbrev S2x2x4x8x2x256 : Shape := ⟨6, ![2, 2, 4, 8, 2, 256]⟩
abbrev S2x128x256 : Shape := ⟨3, ![2, 128, 256]⟩
abbrev S96x4096x512 : Shape := ⟨3, ![96, 4096, 512]⟩
abbrev S1x32x4096 : Shape := ⟨3, ![1, 32, 4096]⟩
abbrev S1x4096x512 : Shape := ⟨3, ![1, 4096, 512]⟩
abbrev S1x32x128 : Shape := ⟨3, ![1, 32, 128]⟩
abbrev S32x128 : Shape := ⟨2, ![32, 128]⟩
abbrev S8x128 : Shape := ⟨2, ![8, 128]⟩
abbrev S1x1x1x8x128 : Shape := ⟨5, ![1, 1, 1, 8, 128]⟩
abbrev S8x128x1 : Shape := ⟨3, ![8, 128, 1]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S1x256 : Shape := ⟨2, ![1, 256]⟩

abbrev nBuf : Space → Nat
  | .hbm => 22
  | .vmem => 8
  | .smem => 0
  | _ => 0

abbrev bufTy : (tb : Table) → Fin (tcTables nBuf tb) → BufTy
  | .hbm, ⟨0, _⟩ => ⟨S96x4096x32, .i32⟩
  | .hbm, ⟨1, _⟩ => ⟨S32x1024x8, .i16⟩
  | .hbm, ⟨2, _⟩ => ⟨S32x8x256, .fp8e4m3⟩
  | .hbm, ⟨3, _⟩ => ⟨S32x256, .f32⟩
  | .hbm, ⟨4, _⟩ => ⟨S32x256, .f32⟩
  | .hbm, ⟨5, _⟩ => ⟨S96x32x4096, .i32⟩
  | .hbm, ⟨6, _⟩ => ⟨S4x8x8x128x4x2, .i16⟩
  | .hbm, ⟨7, _⟩ => ⟨S4x8x8x128x4, .i32⟩
  | .hbm, ⟨8, _⟩ => ⟨S4x4x8x8x128, .i32⟩
  | .hbm, ⟨9, _⟩ => ⟨S32x256, .bf16⟩
  | .hbm, ⟨10, _⟩ => ⟨S32x1x256, .bf16⟩
  | .hbm, ⟨11, _⟩ => ⟨S32x8x256, .bf16⟩
  | .hbm, ⟨12, _⟩ => ⟨S2x16x256, .f32⟩
  | .hbm, ⟨13, _⟩ => ⟨S_, .f32⟩
  | .hbm, ⟨14, _⟩ => ⟨S2x256, .f32⟩
  | .hbm, ⟨15, _⟩ => ⟨S2x2x8x4x2x256, .fp8e4m3⟩
  | .hbm, ⟨16, _⟩ => ⟨S2x2x4x8x2x256, .fp8e4m3⟩
  | .hbm, ⟨17, _⟩ => ⟨S2x128x256, .fp8e4m3⟩
  | .hbm, ⟨18, _⟩ => ⟨S2x2x8x4x2x256, .bf16⟩
  | .hbm, ⟨19, _⟩ => ⟨S2x2x4x8x2x256, .bf16⟩
  | .hbm, ⟨20, _⟩ => ⟨S2x128x256, .bf16⟩
  | .hbm, ⟨21, _⟩ => ⟨S96x4096x512, .bf16⟩
  | .local _ .vmem, ⟨0, _⟩ => ⟨S1x32x4096, .i32⟩
  | .local _ .vmem, ⟨1, _⟩ => ⟨S1x32x4096, .i32⟩
  | .local _ .vmem, ⟨2, _⟩ => ⟨S4x4x8x8x128, .i32⟩
  | .local _ .vmem, ⟨3, _⟩ => ⟨S2x128x256, .fp8e4m3⟩
  | .local _ .vmem, ⟨4, _⟩ => ⟨S2x128x256, .bf16⟩
  | .local _ .vmem, ⟨5, _⟩ => ⟨S2x256, .f32⟩
  | .local _ .vmem, ⟨6, _⟩ => ⟨S1x4096x512, .bf16⟩
  | .local _ .vmem, ⟨7, _⟩ => ⟨S1x4096x512, .bf16⟩
  | _, _ => ⟨S96x4096x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![96, 1], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  v1
def k0_off1 (k0_t1 : Fin k0_t1_loop.trips) : Fin 3 → Nat :=
  let c0 : Index := 0#32
  let c0_1 : Index := 0#32
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v2 : BitVec 32 := v1
  let v3 : Index := Scalar.indexCast v2
  ![0, 0, v3.toNat]
def k0_off2 (k0_t1 : Fin k0_t1_loop.trips) : Fin 3 → Nat :=
  let c0_924 : Index := 0#32
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v2 : BitVec 32 := v1
  let v1474 : Index := Scalar.indexCast v2
  let c0_925 : Index := 0#32
  ![0, v1474.toNat, 0]
def k0_off3 (k0_t1 : Fin k0_t1_loop.trips) : Fin 3 → Nat :=
  let c0_935 : Index := 0#32
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v2 : BitVec 32 := v1
  let v1491 : Index := Scalar.indexCast v2
  let c256 : Index := 256#32
  ![0, v1491.toNat, 256]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x4x8x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x128x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S96x4096x32 : Shape := ⟨3, ![96, 4096, 32]⟩
abbrev S32x1024x8 : Shape := ⟨3, ![32, 1024, 8]⟩
abbrev S32x8x256 : Shape := ⟨3, ![32, 8, 256]⟩
abbrev S32x256 : Shape := ⟨2, ![32, 256]⟩
abbrev S32 : Shape := ⟨1, ![32]⟩
abbrev S1x1x32 : Shape := ⟨3, ![1, 1, 32]⟩
abbrev S_ : Shape := ⟨0, ![]⟩
abbrev S96x4096x32x1 : Shape := ⟨4, ![96, 4096, 32, 1]⟩
abbrev S96x4096x32x2 : Shape := ⟨4, ![96, 4096, 32, 2]⟩
abbrev S96x4096x32x8 : Shape := ⟨4, ![96, 4096, 32, 8]⟩
abbrev S96x4096x2x128 : Shape := ⟨4, ![96, 4096, 2, 128]⟩
abbrev S32x1x256 : Shape := ⟨3, ![32, 1, 256]⟩
abbrev S2x128x256 : Shape := ⟨3, ![2, 128, 256]⟩
abbrev S2x256x96x4096 : Shape := ⟨4, ![2, 256, 96, 4096]⟩
abbrev S96x4096x2x256 : Shape := ⟨4, ![96, 4096, 2, 256]⟩
abbrev S2x16x256 : Shape := ⟨3, ![2, 16, 256]⟩
abbrev S2x256 : Shape := ⟨2, ![2, 256]⟩
abbrev S1x1x2x256 : Shape := ⟨4, ![1, 1, 2, 256]⟩
abbrev S96x4096x512 : Shape := ⟨3, ![96, 4096, 512]⟩

abbrev nBuf : Space → Nat
  | .hbm => 40
  | .vmem => 3
  | .smem => 0
  | _ => 0

abbrev bufTy : (tb : Table) → Fin (tcTables nBuf tb) → BufTy
  | .hbm, ⟨0, _⟩ => ⟨S96x4096x32, .i32⟩
  | .hbm, ⟨1, _⟩ => ⟨S32x1024x8, .i16⟩
  | .hbm, ⟨2, _⟩ => ⟨S32x8x256, .fp8e4m3⟩
  | .hbm, ⟨3, _⟩ => ⟨S32x256, .f32⟩
  | .hbm, ⟨4, _⟩ => ⟨S32x256, .f32⟩
  | .hbm, ⟨5, _⟩ => ⟨S32x1024x8, .bf16⟩
  | .hbm, ⟨6, _⟩ => ⟨S32, .i32⟩
  | .hbm, ⟨7, _⟩ => ⟨S1x1x32, .i32⟩
  | .hbm, ⟨8, _⟩ => ⟨S_, .i32⟩
  | .hbm, ⟨9, _⟩ => ⟨S1x1x32, .i32⟩
  | .hbm, ⟨10, _⟩ => ⟨S1x1x32, .i1⟩
  | .hbm, ⟨11, _⟩ => ⟨S_, .i32⟩
  | .hbm, ⟨12, _⟩ => ⟨S1x1x32, .i32⟩
  | .hbm, ⟨13, _⟩ => ⟨S1x1x32, .i32⟩
  | .hbm, ⟨14, _⟩ => ⟨S1x1x32, .i32⟩
  | .hbm, ⟨15, _⟩ => ⟨S_, .i32⟩
  | .hbm, ⟨16, _⟩ => ⟨S96x4096x32, .i32⟩
  | .hbm, ⟨17, _⟩ => ⟨S96x4096x32, .i1⟩
  | .hbm, ⟨18, _⟩ => ⟨S_, .i32⟩
  | .hbm, ⟨19, _⟩ => ⟨S96x4096x32, .i32⟩
  | .hbm, ⟨20, _⟩ => ⟨S96x4096x32, .i32⟩
  | .hbm, ⟨21, _⟩ => ⟨S96x4096x32, .i32⟩
  | .hbm, ⟨22, _⟩ => ⟨S96x4096x32, .i32⟩
  | .hbm, ⟨23, _⟩ => ⟨S96x4096x32x1, .i32⟩
  | .hbm, ⟨24, _⟩ => ⟨S96x4096x32x1, .i32⟩
  | .hbm, ⟨25, _⟩ => ⟨S96x4096x32x2, .i32⟩
  | .hbm, ⟨26, _⟩ => ⟨S96x4096x32x8, .bf16⟩
  | .hbm, ⟨27, _⟩ => ⟨S96x4096x2x128, .bf16⟩
  | .hbm, ⟨28, _⟩ => ⟨S32x8x256, .bf16⟩
  | .hbm, ⟨29, _⟩ => ⟨S2x128x256, .bf16⟩
  | .hbm, ⟨30, _⟩ => ⟨S2x256x96x4096, .f32⟩
  | .hbm, ⟨31, _⟩ => ⟨S96x4096x2x256, .f32⟩
  | .hbm, ⟨32, _⟩ => ⟨S2x16x256, .f32⟩
  | .hbm, ⟨33, _⟩ => ⟨S_, .f32⟩
  | .hbm, ⟨34, _⟩ => ⟨S2x256, .f32⟩
  | .hbm, ⟨35, _⟩ => ⟨S1x1x2x256, .f32⟩
  | .hbm, ⟨36, _⟩ => ⟨S96x4096x2x256, .f32⟩
  | .hbm, ⟨37, _⟩ => ⟨S96x4096x2x256, .f32⟩
  | .hbm, ⟨38, _⟩ => ⟨S96x4096x512, .f32⟩
  | .hbm, ⟨39, _⟩ => ⟨S96x4096x512, .bf16⟩
  | .local _ .vmem, ⟨0, _⟩ => ⟨S32x8x256, .fp8e4m3⟩
  | .local _ .vmem, ⟨1, _⟩ => ⟨S32x256, .f32⟩
  | .local _ .vmem, ⟨2, _⟩ => ⟨S32x8x256, .bf16⟩
  | _, _ => ⟨S96x4096x32, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S32x8x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Trip.lean ====
/-
  One trip of the kernel's loop over the 32 blocks of 128 tokens: what it stores, written out as two named vectors of the
  blocks of its operands (the generated trip term is a long chain of payloads; here it gets a short one).
-/
module

public import proofs.«01_k».proof.Proof.Gen.KernelIdeal.Loops
public import Idealize.ShloMosaic.Lib.Pipeline.FrameBody

@[expose] public section

set_option maxRecDepth 16384

noncomputable section

namespace Cert.KernelIdeal.Value
open Idealize.ShloMosaic Idealize.ShloMosaic.TcCoe Idealize.ShloMosaic.Tactic
open Cert.KernelIdeal Cert.KernelIdeal.Gen

variable {F : FTy → Type} [FloatOps F]

/-- The low seven bits of each code: its lane. -/
def lanes (v : IVec S8x128 32) : IVec S8x128 32 := andi v (broadcast S8x128 127#32)

/-- One register of the table gathered along its lanes by the codes' low seven bits. -/
def gathered (v : IVec S8x128 32) (t : Vec F S1x1x1x8x128 .i32) : IVec S8x128 32 :=
  dynamicGather 1 (shapeCast S8x128 t shapeCasts_S1x1x1x8x128_S8x128)
    (shapeCast S8x128 (shapeCast S8x128x1
      (select (cmpi .slt (lanes v) (broadcast S8x128 0#32)) (addi (lanes v) (broadcast S8x128 128#32)) (lanes v))
      shapeCasts_S8x128_S8x128x1) shapeCasts_S8x128x1_S8x128)

/-- Whether the bit `b` of each code is set. -/
def bitSet (v : IVec S8x128 32) (b : BitVec 32) : IVec S8x128 1 :=
  cmpi .ne (andi v (broadcast S8x128 b)) (broadcast S8x128 0#32)

/-- The eight gathered registers, the one that bits 7, 8 and 9 of the code name. -/
def chosen (v : IVec S8x128 32) (t : Fin 8 → Vec F S1x1x1x8x128 .i32) : IVec S8x128 32 :=
  select (bitSet v 512#32)
    (select (bitSet v 256#32)
      (select (bitSet v 128#32) (gathered v (t 7)) (gathered v (t 6)))
      (select (bitSet v 128#32) (gathered v (t 5)) (gathered v (t 4))))
    (select (bitSet v 256#32)
      (select (bitSet v 128#32) (gathered v (t 3)) (gathered v (t 2)))
      (select (bitSet v 128#32) (gathered v (t 1)) (gathered v (t 0))))

/-- The register of group `g`, pair `p`, chunk `q` lies in the table. -/
theorem inbTab (g p : Fin 4) (q : Fin 8) :
    ∀ a, (![g.val, p.val, q.val, 0, 0] : Fin 5 → Nat) a + S1x1x1x8x128.size a ≤ S4x4x8x8x128.size a := by
  revert g p q; decide +kernel

/-- The register of group `g`, pair `p`, chunk `q` of the table. -/
def tab (x1 : Vec F S4x4x8x8x128 .i32) (g p : Fin 4) (q : Fin 8) : Vec F S1x1x1x8x128 .i32 :=
  View.ld x1 (Rect.unit (s := S4x4x8x8x128) ![g.val, p.val, q.val, 0, 0] S1x1x1x8x128.size (inbTab g p q))

/-- The eight rows of group `g` lie in the 32 rows of codes. -/
theorem slicesEight (g : Fin 4) : S32x128.Slices ![8 * g.val, 0] S8x128 := by
  revert g; decide +kernel

/-- The eight rows of codes of group `g`. -/
def eight (v : IVec S32x128 32) (g : Fin 4) : IVec S8x128 32 :=
  extractStridedSlice S8x128 ![8 * g.val, 0] v (slicesEight g)

/-- The table words of one block of tokens: row `8·(4·g + p) + s` holds, per token, the word of level `8·g + s`, pair `p`. -/
def words (v : IVec S32x128 32) (x1 : Vec F S4x4x8x8x128 .i32) : IVec S128x128 32 :=
  concatenate S128x128 0 [⟨S8x128, chosen (eight v 0) (tab x1 0 0)⟩, ⟨S8x128, chosen (eight v 0) (tab x1 0 1)⟩, ⟨S8x128, chosen (eight v 0) (tab x1 0 2)⟩, ⟨S8x128, chosen (eight v 0) (tab x1 0 3)⟩, ⟨S8x128, chosen (eight v 1) (tab x1 1 0)⟩, ⟨S8x128, chosen (eight v 1) (tab x1 1 1)⟩, ⟨S8x128, chosen (eight v 1) (tab x1 1 2)⟩, ⟨S8x128, chosen (eight v 1) (tab x1 1 3)⟩, ⟨S8x128, chosen (eight v 2) (tab x1 2 0)⟩, ⟨S8x128, chosen (eight v 2) (tab x1 2 1)⟩, ⟨S8x128, chosen (eight v 2) (tab x1 2 2)⟩, ⟨S8x128, chosen (eight v 2) (tab x1 2 3)⟩, ⟨S8x128, chosen (eight v 3) (tab x1 3 0)⟩, ⟨S8x128, chosen (eight v 3) (tab x1 3 1)⟩, ⟨S8x128, chosen (eight v 3) (tab x1 3 2)⟩, ⟨S8x128, chosen (eight v 3) (tab x1 3 3)⟩] concatenates_S8x128_S8x128_S8x128_S8x128_S8x128_S8x128_S8x128_S8x128_S8x128_S8x128_S8x128_S8x128_S8x128_S8x128_S8x128_S8x128_S128x128_d0

/-- The embeddings of one block of tokens: token by (row of words, half of the word). -/
def embed (x0 : Vec F S1x32x128 .i32) (x1 : Vec F S4x4x8x8x128 .i32) : FVec F S128x256 .bf16 :=
  transpose S128x256 [1, 0]
    (bitcastToFloat .bf16 (bitcast S256x128 16 (words (shapeCast S32x128 x0 shapeCasts_S1x32x128_S32x128) x1) bitcasts_S128x128_w32_S256x128_w16))
    transposes_S256x128_p1_0_S128x256

/-- The product of one half's embeddings with the half's weights, the bias added, rounded. -/
def project (e : FVec F S128x128 .bf16) (w : Vec F S1x128x256 .fp8e4m3) (s : Vec F S1x128x256 .bf16) (b : Vec F S1x256 .f32) :
    FVec F S1x128x256 .bf16 :=
  shapeCast S1x128x256
    (truncf .bf16
      (addf
        (matmul dot_S128x128_S128x256_S128x256_1_0_0_1_n_n none e
          (mulf (extf .bf16 (shapeCast S128x256 w shapeCasts_S1x128x256_S128x256 : FVec F S128x256 .fp8e4m3) bitsLt_fp8e4m3_bf16)
            (shapeCast S128x256 s shapeCasts_S1x128x256_S128x256 : FVec F S128x256 .bf16))
          (constant S128x256 .f32 0x00000000#32))
        (broadcastTo S128x256 (shapeCast S1x256 b shapeCasts_S1x256_S1x256 : FVec F S1x256 .f32) broadcasts_S1x256_S128x256))
      bitsLt_bf16_f32)
    shapeCasts_S128x256_S1x128x256

/-- What one trip stores in the left half of the columns. -/
def left (x0 : Vec F S1x32x128 .i32) (x1 : Vec F S4x4x8x8x128 .i32) (x2 : Vec F S2x128x256 .fp8e4m3) (x3 : Vec F S2x128x256 .bf16)
    (x4 : Vec F S2x256 .f32) : FVec F S1x128x256 .bf16 :=
  project (extractStridedSlice S128x128 ![0, 0] (embed x0 x1) slices_S128x256_o0_0_S128x128)
    (View.ld x2 (Rect.unit (s := S2x128x256) ![0, 0, 0] S1x128x256.size inb_S2x128x256_S1x128x256_0_0_0))
    (View.ld x3 (Rect.unit (s := S2x128x256) ![0, 0, 0] S1x128x256.size inb_S2x128x256_S1x128x256_0_0_0))
    (View.ld x4 (Rect.unit (s := S2x256) ![0, 0] S1x256.size inb_S2x256_S1x256_0_0))

/-- What one trip stores in the right half of the columns. -/
def right (x0 : Vec F S1x32x128 .i32) (x1 : Vec F S4x4x8x8x128 .i32) (x2 : Vec F S2x128x256 .fp8e4m3) (x3 : Vec F S2x128x256 .bf16)
    (x4 : Vec F S2x256 .f32) : FVec F S1x128x256 .bf16 :=
  project (extractStridedSlice S128x128 ![0, 128] (embed x0 x1) slices_S128x256_o0_128_S128x128)
    (View.ld x2 (Rect.unit (s := S2x128x256) ![1, 0, 0] S1x128x256.size inb_S2x128x256_S1x128x256_1_0_0))
    (View.ld x3 (Rect.unit (s := S2x128x256) ![1, 0, 0] S1x128x256.size inb_S2x128x256_S1x128x256_1_0_0))
    (View.ld x4 (Rect.unit (s := S2x256) ![1, 0] S1x256.size inb_S2x256_S1x256_1_0))

/-- The codes of trip `k`: its 128 columns. -/
def codesAt (x0 : Vec F S1x32x4096 .i32) (k : Fin k0_t1_loop.trips) : Vec F S1x32x128 .i32 :=
  View.ld x0 (Rect.unit (s := S1x32x4096) (k0_off1 k) S1x32x128.size (k0_off1_inb k))

/-- The pieces trip `k` writes: the right half of its rows (last), the left half. -/
theorem trip_pieces (𝒱 : Variants) (c : Dev nD) (bd : Option 𝒱.V) (i : grid0.Coords) (arg2 : Memref sig .tc .vmem S1x32x4096 .i32) (harg2 : arg2.IsWhole) (arg3 : Memref sig .tc .vmem S4x4x8x8x128 .i32) (harg3 : arg3.IsWhole) (arg4 : Memref sig .tc .vmem S2x128x256 .fp8e4m3) (harg4 : arg4.IsWhole) (arg5 : Memref sig .tc .vmem S2x128x256 .bf16) (harg5 : arg5.IsWhole) (arg6 : Memref sig .tc .vmem S2x256 .f32) (harg6 : arg6.IsWhole) (arg7 : Memref sig .tc .vmem S1x4096x512 .bf16) (harg7 : arg7.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    tripL_k0_t1 (F := F) 𝒱 c bd i arg2 harg2 arg3 harg3 arg4 harg4 arg5 harg5 arg6 harg6 arg7 harg7 X_arg2 X_arg3 X_arg4 X_arg5 X_arg6 k
      = [⟨Rect.unit (s := S1x4096x512) (k0_off3 k) S1x128x256.size (k0_off3_inb k),
            right (codesAt (arg2.view.read (Elt F) X_arg2) k) (arg3.view.read (Elt F) X_arg3) (arg4.view.read (Elt F) X_arg4) (arg5.view.read (Elt F) X_arg5) (arg6.view.read (Elt F) X_arg6)⟩,
         ⟨Rect.unit (s := S1x4096x512) (k0_off2 k) S1x128x256.size (k0_off2_inb k),
            left (codesAt (arg2.view.read (Elt F) X_arg2) k) (arg3.view.read (Elt F) X_arg3) (arg4.view.read (Elt F) X_arg4) (arg5.view.read (Elt F) X_arg5) (arg6.view.read (Elt F) X_arg6)⟩] := by
  unfold tripL_k0_t1 trip_k0_t1
  dsimp only
  sl_unfold_run_names
  rfl

end Cert.KernelIdeal.Value

end
-- ==== Proof.Block.lean ====
/-
  What the kernel's body leaves in its output block, index by index: rows 128·k + r come from trip k of its loop.
-/
module

public import proofs.«01_k».proof.Proof.Gen.KernelIdeal.Value
public import proofs.«01_k».proof.Proof.Trip
public import Idealize.ShloMosaic.Lib.Writes
public import Idealize.ShloMosaic.Lib.Pointwise
public import Idealize.ShloMosaic.Lib.Pipeline.ValueKit

@[expose] public section

set_option maxRecDepth 16384

noncomputable section

namespace Cert.KernelIdeal.Value
open Idealize.ShloMosaic Idealize.ShloMosaic.TcCoe Idealize.ShloMosaic.Tactic
open Cert.KernelIdeal Cert.KernelIdeal.Gen

variable {F : FTy → Type} [FloatOps F]

/-- The loop makes 32 trips. -/
theorem trips_eq : k0_t1_loop.trips = 32 := by decide +kernel

/-- The output block as one function of the operands' blocks: its rows in 32 groups of 128, its columns in two halves. -/
def block (x0 : Vec F S1x32x4096 .i32) (x1 : Vec F S4x4x8x8x128 .i32) (x2 : Vec F S2x128x256 .fp8e4m3) (x3 : Vec F S2x128x256 .bf16)
    (x4 : Vec F S2x256 .f32) : Vec F S1x4096x512 .bf16 := fun y =>
  have h1 : (y 1).val / 128 < k0_t1_loop.trips := by
    have h : (y 1).val < 4096 := (y 1).isLt
    rw [trips_eq]; omega
  if h : (y 2).val < 256 then
    left (codesAt x0 ⟨(y 1).val / 128, h1⟩) x1 x2 x3 x4 (ix3 0 ⟨(y 1).val % 128, Nat.mod_lt _ (by decide)⟩ ⟨(y 2).val, h⟩)
  else
    right (codesAt x0 ⟨(y 1).val / 128, h1⟩) x1 x2 x3 x4
      (ix3 0 ⟨(y 1).val % 128, Nat.mod_lt _ (by decide)⟩ ⟨(y 2).val - 256, by
        have h2 : (y 2).val < 512 := (y 2).isLt
        omega⟩)

/-- The block at row `128·k + r`, left half. -/
theorem block_left (x0 : Vec F S1x32x4096 .i32) (x1 : Vec F S4x4x8x8x128 .i32) (x2 : Vec F S2x128x256 .fp8e4m3) (x3 : Vec F S2x128x256 .bf16)
    (x4 : Vec F S2x256 .f32) (k : Fin k0_t1_loop.trips) (r : Fin 128) (d : Fin 256) (y : S1x4096x512.Idx)
    (h1 : (y 1).val = 128 * k.val + r.val) (h2 : (y 2).val = d.val) :
    block x0 x1 x2 x3 x4 y = left (codesAt x0 k) x1 x2 x3 x4 (ix3 0 r d) := by
  unfold block
  rw [dif_pos (by rw [h2]; exact d.isLt)]
  have hr := r.isLt
  congr 1
  · congr 1; exact Fin.ext (show (y 1).val / 128 = k.val by omega)
  · rw [ix3_inj]
    exact ⟨rfl, Fin.ext (show (y 1).val % 128 = r.val by omega), Fin.ext h2⟩

/-- The block at row `128·k + r`, right half. -/
theorem block_right (x0 : Vec F S1x32x4096 .i32) (x1 : Vec F S4x4x8x8x128 .i32) (x2 : Vec F S2x128x256 .fp8e4m3) (x3 : Vec F S2x128x256 .bf16)
    (x4 : Vec F S2x256 .f32) (k : Fin k0_t1_loop.trips) (r : Fin 128) (d : Fin 256) (y : S1x4096x512.Idx)
    (h1 : (y 1).val = 128 * k.val + r.val) (h2 : (y 2).val = 256 + d.val) :
    block x0 x1 x2 x3 x4 y = right (codesAt x0 k) x1 x2 x3 x4 (ix3 0 r d) := by
  unfold block
  rw [dif_neg (by rw [h2]; omega)]
  have hr := r.isLt
  congr 1
  · congr 1; exact Fin.ext (show (y 1).val / 128 = k.val by omega)
  · rw [ix3_inj]
    exact ⟨rfl, Fin.ext (show (y 1).val % 128 = r.val by omega), Fin.ext (show (y 2).val - 256 = d.val by omega)⟩

/-- An index whose first axis has extent one. -/
theorem eq_unit (x : S1x128x256.Idx) : x = ix3 (n0 := 1) (n1 := 128) (n2 := 256) 0 (x 1) (x 2) := by
  funext a
  match a with
  | ⟨0, _⟩ => exact Subsingleton.elim (α := Fin 1) _ _
  | ⟨1, _⟩ => rfl
  | ⟨2, _⟩ => rfl

/-- Where the rectangle of a right half places an index. -/
theorem emb_right (k : Fin k0_t1_loop.trips) (x : S1x128x256.Idx) :
    ((Rect.unit (s := S1x4096x512) (k0_off3 k) S1x128x256.size (k0_off3_inb k)).emb x 1).val = 128 * k.val + (x 1).val
      ∧ ((Rect.unit (s := S1x4096x512) (k0_off3 k) S1x128x256.size (k0_off3_inb k)).emb x 2).val = 256 + (x 2).val := by
  have h1 := congrFun (k0_off3_eq k) 1
  have h2 := congrFun (k0_off3_eq k) 2
  constructor
  · rw [ValueKit.rect_emb_unit_val, h1]; rfl
  · rw [ValueKit.rect_emb_unit_val, h2]; rfl

/-- Where the rectangle of a left half places an index. -/
theorem emb_left (k : Fin k0_t1_loop.trips) (x : S1x128x256.Idx) :
    ((Rect.unit (s := S1x4096x512) (k0_off2 k) S1x128x256.size (k0_off2_inb k)).emb x 1).val = 128 * k.val + (x 1).val
      ∧ ((Rect.unit (s := S1x4096x512) (k0_off2 k) S1x128x256.size (k0_off2_inb k)).emb x 2).val = (x 2).val := by
  have h1 := congrFun (k0_off2_eq k) 1
  have h2 := congrFun (k0_off2_eq k) 2
  constructor
  · rw [ValueKit.rect_emb_unit_val, h1]; rfl
  · rw [ValueKit.rect_emb_unit_val, h2]; exact Nat.zero_add _

/-- Each piece of each trip holds the block function's values at the rectangle it is written to. -/
theorem pieces_agree (𝒱 : Variants) (c : Dev nD) (bd : Option 𝒱.V) (i : grid0.Coords) (arg2 : Memref sig .tc .vmem S1x32x4096 .i32) (harg2 : arg2.IsWhole) (arg3 : Memref sig .tc .vmem S4x4x8x8x128 .i32) (harg3 : arg3.IsWhole) (arg4 : Memref sig .tc .vmem S2x128x256 .fp8e4m3) (harg4 : arg4.IsWhole) (arg5 : Memref sig .tc .vmem S2x128x256 .bf16) (harg5 : arg5.IsWhole) (arg6 : Memref sig .tc .vmem S2x256 .f32) (harg6 : arg6.IsWhole) (arg7 : Memref sig .tc .vmem S1x4096x512 .bf16) (harg7 : arg7.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    ∀ k : ℕ, k ≤ k0_t1_loop.trips →
    ∀ p ∈ pb_k0_t1 (F := F) 𝒱 c bd i arg2 harg2 arg3 harg3 arg4 harg4 arg5 harg5 arg6 harg6 arg7 harg7 X_arg2 X_arg3 X_arg4 X_arg5 X_arg6 k,
    ∀ x : p.1.shape.Idx, p.2 x
      = block (arg2.view.read (Elt F) X_arg2) (arg3.view.read (Elt F) X_arg3) (arg4.view.read (Elt F) X_arg4) (arg5.view.read (Elt F) X_arg5) (arg6.view.read (Elt F) X_arg6) (p.1.emb x)
  | 0, _, p, hp, _ => by
    rw [pb_k0_t1.eq_1] at hp
    exact absurd hp List.not_mem_nil
  | k + 1, hk, p, hp, x => by
    have hs := pb_k0_t1_succ (F := F) 𝒱 c bd i arg2 harg2 arg3 harg3 arg4 harg4 arg5 harg5 arg6 harg6 arg7 harg7 X_arg2 X_arg3 X_arg4 X_arg5 X_arg6 ⟨k, hk⟩
    rw [trip_pieces] at hs
    rw [hs] at hp
    rcases List.mem_append.mp hp with hp | hp
    · have hk' : k < 32 := by rw [← trips_eq]; exact hk
      rcases List.mem_cons.mp hp with rfl | hp
      · exact (congrArg _ (eq_unit x)).trans (block_right _ _ _ _ _ ⟨k, hk⟩ (x 1) (x 2) _ (emb_right ⟨k, hk⟩ x).1 (emb_right ⟨k, hk⟩ x).2).symm
      · rcases List.mem_singleton.mp hp with rfl
        exact (congrArg _ (eq_unit x)).trans (block_left _ _ _ _ _ ⟨k, hk⟩ (x 1) (x 2) _ (emb_left ⟨k, hk⟩ x).1 (emb_left ⟨k, hk⟩ x).2).symm
    · exact pieces_agree 𝒱 c bd i arg2 harg2 arg3 harg3 arg4 harg4 arg5 harg5 arg6 harg6 arg7 harg7 X_arg2 X_arg3 X_arg4 X_arg5 X_arg6 k (Nat.le_of_succ_le hk) p hp x

/-- The result of a grid point: the block named as a function of the point's inputs. -/
theorem out_eq (c : Dev nD) (i : grid0.Coords) (arg2 : Memref sig .tc .vmem S1x32x4096 .i32) (harg2 : arg2.IsWhole) (arg3 : Memref sig .tc .vmem S4x4x8x8x128 .i32) (harg3 : arg3.IsWhole) (arg4 : Memref sig .tc .vmem S2x128x256 .fp8e4m3) (harg4 : arg4.IsWhole) (arg5 : Memref sig .tc .vmem S2x128x256 .bf16) (harg5 : arg5.IsWhole) (arg6 : Memref sig .tc .vmem S2x256 .f32) (harg6 : arg6.IsWhole) (arg7 : Memref sig .tc .vmem S1x4096x512 .bf16) (harg7 : arg7.IsWhole)
    (x0 : Vec F S1x32x4096 .i32) (x1 : Vec F S4x4x8x8x128 .i32) (x2 : Vec F S2x128x256 .fp8e4m3) (x3 : Vec F S2x128x256 .bf16) (x4 : Vec F S2x256 .f32) :
    out0_A_5 c i arg2 harg2 arg3 harg3 arg4 harg4 arg5 harg5 arg6 harg6 arg7 harg7 x0 x1 x2 x3 x4 = block x0 x1 x2 x3 x4 := by
  funext y
  unfold out0_A_5
  have hc := cover0_A_5 c i arg2 harg2 arg3 harg3 arg4 harg4 arg5 harg5 arg6 harg6 arg7 harg7 x0 x1 x2 x3 x4 y
  have hp := pieces_agree Variants.none c none i arg2 harg2 arg3 harg3 arg4 harg4 arg5 harg5 arg6 harg6 arg7 harg7 (harg2.unread x0) (harg3.unread x1) (harg4.unread x2) (harg5.unread x3) (harg6.unread x4) _ (Nat.le_refl _)
  rw [harg2.read_unread, harg3.read_unread, harg4.read_unread, harg5.read_unread, harg6.read_unread] at hp
  refine View.read_writes_apply_of_pieces _ _ _ _ ?_ y hc
  unfold kernelRun0_A
  dsimp only
  sl_unfold_run_names
  exact hp

end Cert.KernelIdeal.Value

end
-- ==== Proof.Words.lean ====
/-
  The table words of one block of tokens read at an index: which register, sublane and lane of the table a code picks.
-/
module

public import proofs.«01_k».proof.Proof.Trip
public import Idealize.ShloMosaic.Lib.Pointwise
public import Idealize.ShloMosaic.Lib.BitcastPair
public import Idealize.ShloMosaic.Lib.Pipeline.Value
public import Idealize.ShloMosaic.Lib.Pipeline.ValueKit

@[expose] public section

set_option maxRecDepth 16384

noncomputable section

namespace Cert.KernelIdeal.Value
open Idealize.ShloMosaic Idealize.ShloMosaic.TcCoe Idealize.ShloMosaic.Tactic
open Cert.KernelIdeal Cert.KernelIdeal.Gen

variable {F : FTy → Type} [FloatOps F]

/-- Whether bit `i` of a word is set, from the word's value. -/
theorem bit_ne_zero (x : BitVec 32) (i : ℕ) (hi : i < 32) :
    (x &&& BitVec.twoPow 32 i ≠ 0#32) ↔ x.toNat / 2 ^ i % 2 = 1 := by
  rw [BitVec.and_twoPow, BitVec.getLsbD, Nat.testBit_eq_decide_div_mod_eq]
  by_cases h : x.toNat / 2 ^ i % 2 = 1
  · simp only [h, decide_true, if_true, ne_eq, iff_true]
    intro hz
    have := congrArg BitVec.toNat hz
    rw [BitVec.toNat_twoPow, Nat.mod_eq_of_lt (Nat.pow_lt_pow_right (by decide) hi)] at this
    exact absurd this (Nat.pos_iff_ne_zero.mp (Nat.pow_pos (by decide)))
  · simp [h]

/-- The low seven bits of a word are its value modulo 128. -/
theorem low_seven (x : BitVec 32) : (x &&& 127#32).toNat = x.toNat % 128 := by
  rw [BitVec.toNat_and]; exact Nat.and_two_pow_sub_one_eq_mod x.toNat 7

/-- A gathered register at a sublane and token: the register at that sublane, at the lane the code's low seven bits name. -/
theorem gathered_apply (v : IVec S8x128 32) (t : Vec F S1x1x1x8x128 .i32) (s : Fin 8) (r : Fin 128) :
    gathered v t (ix2 s r) = t (ix5 0 0 0 s ⟨(v (ix2 s r)).toNat % 128, Nat.mod_lt _ (by decide)⟩) := by
  unfold gathered lanes
  pointwise
  have h : IntOp.cmpi CmpIPredicate.slt (IntOp.andi (v (ix2 s r)) 127#32) 0#32 ≠ 1 := by
    show BitVec.ofBool ((v (ix2 s r) &&& 127#32).slt 0#32) ≠ 1
    have h7 := low_seven (v (ix2 s r))
    have hlt : ¬ (v (ix2 s r) &&& 127#32).toInt < 0 := by
      rw [BitVec.toInt_eq_toNat_of_lt (by omega)]; omega
    rw [BitVec.slt, show (0#32 : BitVec 32).toInt = 0 from rfl, decide_eq_false hlt]
    decide
  refine congrArg t ?_
  rw [ix5_inj]
  refine ⟨rfl, rfl, rfl, rfl, Fin.ext ?_⟩
  show (Scalar.select _ _ _ : BitVec 32).toNat % 128 = _
  unfold Scalar.select
  rw [if_neg h]
  show (v (ix2 s r) &&& 127#32).toNat % 128 = _
  rw [low_seven, Nat.mod_mod]

/-- Whether a bit of the codes is set, at an index. -/
theorem bitSet_apply (v : IVec S8x128 32) (b : BitVec 32) (i : ℕ) (hi : i < 32) (hb : b = BitVec.twoPow 32 i) (j : S8x128.Idx) :
    bitSet v b j = 1 ↔ (v j).toNat / 2 ^ i % 2 = 1 := by
  subst hb
  rw [← bit_ne_zero _ _ hi]
  show BitVec.ofBool (v j &&& BitVec.twoPow 32 i != 0#32) = 1 ↔ _
  by_cases h : v j &&& BitVec.twoPow 32 i = 0#32
  · simp [h]
  · simp only [ne_eq, h, not_false_eq_true, iff_true]
    rw [bne_iff_ne.mpr h]; rfl

/-- The chosen word at a sublane and token: bits 7, 8 and 9 of the code name the register, the low seven bits the lane. -/
theorem chosen_apply (v : IVec S8x128 32) (t : Fin 8 → Vec F S1x1x1x8x128 .i32) (s : Fin 8) (r : Fin 128) :
    chosen v t (ix2 s r) = t ⟨(v (ix2 s r)).toNat / 128 % 8, Nat.mod_lt _ (by decide)⟩
      (ix5 0 0 0 s ⟨(v (ix2 s r)).toNat % 128, Nat.mod_lt _ (by decide)⟩) := by
  have key (q : Fin 8) (hq : (v (ix2 s r)).toNat / 128 % 8 = q.val) :
      gathered v (t q) (ix2 s r) = t ⟨(v (ix2 s r)).toNat / 128 % 8, Nat.mod_lt _ (by decide)⟩
        (ix5 0 0 0 s ⟨(v (ix2 s r)).toNat % 128, Nat.mod_lt _ (by decide)⟩) := by
    rw [gathered_apply, show (⟨(v (ix2 s r)).toNat / 128 % 8, Nat.mod_lt _ (by decide)⟩ : Fin 8) = q from Fin.ext hq]
  have b9 := bitSet_apply v 512#32 9 (by decide) (by decide) (ix2 s r)
  have b8 := bitSet_apply v 256#32 8 (by decide) (by decide) (ix2 s r)
  have b7 := bitSet_apply v 128#32 7 (by decide) (by decide) (ix2 s r)
  have n9 : (v (ix2 s r)).toNat / 2 ^ 9 % 2 = 1 ∨ (v (ix2 s r)).toNat / 2 ^ 9 % 2 = 0 := by omega
  have n8 : (v (ix2 s r)).toNat / 2 ^ 8 % 2 = 1 ∨ (v (ix2 s r)).toNat / 2 ^ 8 % 2 = 0 := by omega
  have n7 : (v (ix2 s r)).toNat / 2 ^ 7 % 2 = 1 ∨ (v (ix2 s r)).toNat / 2 ^ 7 % 2 = 0 := by omega
  unfold chosen
  simp only [select, Scalar.select, b9, b8, b7]
  rcases n9 with n9 | n9 <;> rcases n8 with n8 | n8 <;> rcases n7 with n7 | n7 <;> simp only [n9, n8, n7, if_true, if_false, Nat.zero_ne_one]
  · exact key 7 (by show _ = 7; omega)
  · exact key 6 (by show _ = 6; omega)
  · exact key 5 (by show _ = 5; omega)
  · exact key 4 (by show _ = 4; omega)
  · exact key 3 (by show _ = 3; omega)
  · exact key 2 (by show _ = 2; omega)
  · exact key 1 (by show _ = 1; omega)
  · exact key 0 (by show _ = 0; omega)

/-- One register of the table at a sublane and lane. -/
theorem tab_apply (x1 : Vec F S4x4x8x8x128 .i32) (g p : Fin 4) (q s : Fin 8) (l : Fin 128) :
    tab x1 g p q (ix5 0 0 0 s l) = x1 (ix5 g p q s l) := by
  unfold tab
  refine View.ld_unit_apply_of x1 _ _ _ _ (ix5 g p q s l) fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

/-- The codes of group `g` at a sublane and token. -/
theorem eight_apply (v : IVec S32x128 32) (g : Fin 4) (s : Fin 8) (r : Fin 128) :
    eight v g (ix2 s r) = v (ix2 ⟨8 * g.val + s.val, by omega⟩ r) := by
  unfold eight
  pointwise
  all_goals trace_state

/-- The sixteen pieces of the words, as one function of the piece's number. -/
theorem words_eq (v : IVec S32x128 32) (x1 : Vec F S4x4x8x8x128 .i32) :
    ∃ h, words v x1 = concatenate S128x128 0 (List.ofFn fun n : Fin 16 => (⟨S8x128, chosen (eight v ⟨n.val / 4, by omega⟩)
      (tab x1 ⟨n.val / 4, by omega⟩ ⟨n.val % 4, by omega⟩)⟩ : (s : Shape) × (s.Idx → BitVec 32))) h :=
  ⟨concatenates_S8x128_S8x128_S8x128_S8x128_S8x128_S8x128_S8x128_S8x128_S8x128_S8x128_S8x128_S8x128_S8x128_S8x128_S8x128_S8x128_S128x128_d0, rfl⟩

/-- Row `8·(4·g + p) + s` of the words, at a token: the table's word of group `g`, pair `p`, sublane `s` at the token's code. -/
theorem words_apply (v : IVec S32x128 32) (x1 : Vec F S4x4x8x8x128 .i32) (g p : Fin 4) (s : Fin 8) (r : Fin 128) (c : Fin 32)
    (hc : c.val = 8 * g.val + s.val) (i : Fin 128) (hi : i.val = 8 * (4 * g.val + p.val) + s.val) :
    words v x1 (ix2 i r) = x1 (ix5 g p ⟨(v (ix2 c r)).toNat / 128 % 8, Nat.mod_lt _ (by decide)⟩ s
      ⟨(v (ix2 c r)).toNat % 128, Nat.mod_lt _ (by decide)⟩) := by
  obtain ⟨h, e⟩ := words_eq v x1
  rw [e, concatenate_ofFn_apply (s₁ := S8x128) 0 _ h rfl 8 rfl (ix2 i r) ⟨4 * g.val + p.val, by omega⟩
    (by show i.val / 8 = 4 * g.val + p.val; omega) (ix2 s r) (by show s.val = i.val % 8; omega)
    (fun b hb => by match b with | ⟨0, _⟩ => exact absurd rfl hb | ⟨1, _⟩ => rfl)]
  have hg : (⟨(4 * g.val + p.val) / 4, by omega⟩ : Fin 4) = g := Fin.ext (show (4 * g.val + p.val) / 4 = g.val by omega)
  have hp : (⟨(4 * g.val + p.val) % 4, by omega⟩ : Fin 4) = p := Fin.ext (show (4 * g.val + p.val) % 4 = p.val by omega)
  simp only [hg, hp]
  rw [chosen_apply, tab_apply]
  have hv : eight v g (ix2 s r) = v (ix2 c r) := by
    rw [eight_apply]
    exact congrArg (fun c => v (ix2 c r)) (Fin.ext hc.symm)
  rw [hv]

/-- The embeddings at a token: column `2·w + b` is half `b` of the token's word in row `w`, read as a number. -/
theorem embed_apply (x0 : Vec F S1x32x128 .i32) (x1 : Vec F S4x4x8x8x128 .i32) (r : Fin 128) (w : Fin 128) (b : Fin 2) (col : Fin 256)
    (hcol : col.val = 2 * w.val + b.val) :
    embed x0 x1 (ix2 r col)
      = FloatOps.ofBits .bf16 ((words (shapeCast S32x128 x0 shapeCasts_S1x32x128_S32x128) x1 (ix2 w r)).extractLsb' (16 * b.val) 16) := by
  unfold embed
  pointwise
  rw [bitcast_32_16]
  have hrow : S256x128.row (ix2 col r) = col.val := rfl
  have h2 : S256x128.row (ix2 col r) % 2 = b.val := by rw [hrow]; omega
  have hi : bitcasts_S128x128_w32_S256x128_w16.srcIdx (ix2 col r) (S256x128.row (ix2 col r) / 2)
      (fun a ha => by have := bitcasts_S128x128_w32_S256x128_w16.pos_lt (ix2 col r) 0 (by decide) a ha; omega) = ix2 w r := by
    funext a
    match a with
    | ⟨0, _⟩ => exact Fin.ext ((Shape.Bitcasts.srcIdx_row _ _ _ _ _ rfl).trans (show col.val / 2 = w.val by omega))
    | ⟨1, _⟩ => exact Fin.ext (Shape.Bitcasts.srcIdx_other _ _ _ _ _ (show ¬ 1 + 2 = 2 by decide))
  rw [h2]
  exact congrArg (fun i => FloatOps.ofBits .bf16 ((words (shapeCast S32x128 x0 shapeCasts_S1x32x128_S32x128) x1 i).extractLsb' (16 * b.val) 16)) hi

end Cert.KernelIdeal.Value

end
-- ==== Proof.BlockValue.lean ====
/-
  The kernel's output block over the extended reals, at an index: the sum, over the 128 embedding entries of the index's half,
  of the entry times its scaled weight, plus the half's bias.
-/
module

public import proofs.«01_k».proof.Proof.Block
public import proofs.«01_k».proof.Proof.Words

@[expose] public section

set_option maxRecDepth 16384

noncomputable section

namespace Cert.KernelIdeal.Value
open Idealize.ShloMosaic Idealize.ShloMosaic.TcCoe Idealize.ShloMosaic.Tactic
open Cert.KernelIdeal Cert.KernelIdeal.Gen

/-- The group of entry `kk` of half `h`. -/
def grp (h : Fin 2) (kk : Fin 128) : Fin 4 := ⟨2 * h.val + kk.val / 64, by omega⟩
/-- The pair of entry `kk`. -/
def pair (kk : Fin 128) : Fin 4 := ⟨kk.val / 16 % 4, by omega⟩
/-- The sublane of entry `kk`. -/
def sub (kk : Fin 128) : Fin 8 := ⟨kk.val / 2 % 8, by omega⟩
/-- The half of the word that entry `kk` is. -/
def par (kk : Fin 128) : Fin 2 := ⟨kk.val % 2, by omega⟩
/-- The level of entry `kk` of half `h`. -/
def lev (h : Fin 2) (kk : Fin 128) : Fin 32 := ⟨8 * (grp h kk).val + (sub kk).val, by omega⟩

/-- The embedding entry `kk` of half `h` of token `T`, from the blocks of codes and of the table. -/
def entry (x0 : Vec Ideal S1x32x4096 .i32) (x1 : Vec Ideal S4x4x8x8x128 .i32) (T : Fin 4096) (h : Fin 2) (kk : Fin 128) : EReal :=
  FloatOps.ofBits (F := Ideal) .bf16
    ((x1 (ix5 (grp h kk) (pair kk) ⟨(x0 (ix3 0 (lev h kk) T) : BitVec 32).toNat / 128 % 8, Nat.mod_lt _ (by decide)⟩ (sub kk)
      ⟨(x0 (ix3 0 (lev h kk) T) : BitVec 32).toNat % 128, Nat.mod_lt _ (by decide)⟩) : BitVec 32).extractLsb' (16 * (par kk).val) 16)

/-- The codes of a trip at a level and token. -/
theorem codesAt_apply (x0 : Vec Ideal S1x32x4096 .i32) (k : Fin k0_t1_loop.trips) (l : Fin 32) (r : Fin 128) (T : Fin 4096)
    (hT : T.val = 128 * k.val + r.val) : codesAt x0 k (ix3 0 l r) = x0 (ix3 0 l T) := by
  unfold codesAt
  refine View.ld_unit_apply_of x0 _ _ _ _ (ix3 0 l T) fun a => ?_
  have h := congrFun (k0_off1_eq k) a
  rw [h]
  match a with
  | ⟨0, _⟩ => rfl
  | ⟨1, _⟩ => exact (Nat.zero_add _).symm
  | ⟨2, _⟩ => exact hT

/-- The embeddings of a trip at a token's row and an entry's column. -/
theorem embed_entry (x0 : Vec Ideal S1x32x4096 .i32) (x1 : Vec Ideal S4x4x8x8x128 .i32) (k : Fin k0_t1_loop.trips) (r : Fin 128)
    (T : Fin 4096) (hT : T.val = 128 * k.val + r.val) (h : Fin 2) (kk : Fin 128) (col : Fin 256) (hcol : col.val = 128 * h.val + kk.val) :
    embed (codesAt x0 k) x1 (ix2 r col) = entry x0 x1 T h kk := by
  have hk := kk.isLt
  have hh := h.isLt
  have hg : (grp h kk).val = 2 * h.val + kk.val / 64 := rfl
  have hp : (pair kk).val = kk.val / 16 % 4 := rfl
  have hs : (sub kk).val = kk.val / 2 % 8 := rfl
  have hb : (par kk).val = kk.val % 2 := rfl
  rw [embed_apply _ _ r ⟨8 * (4 * (grp h kk).val + (pair kk).val) + (sub kk).val, by omega⟩ (par kk) col
    (by show col.val = 2 * (8 * (4 * (grp h kk).val + (pair kk).val) + (sub kk).val) + (par kk).val; omega),
    words_apply _ _ (grp h kk) (pair kk) (sub kk) r (lev h kk) rfl _ rfl]
  have hc : shapeCast S32x128 (codesAt x0 k) shapeCasts_S1x32x128_S32x128 (ix2 (lev h kk) r) = x0 (ix3 0 (lev h kk) T) := by
    rw [← codesAt_apply x0 k (lev h kk) r T hT]
    pointwise
  simp only [hc]
  rfl

/-- The projection at an index. -/
theorem project_apply (e : FVec Ideal S128x128 .bf16) (w : Vec Ideal S1x128x256 .fp8e4m3) (s : Vec Ideal S1x128x256 .bf16)
    (b : Vec Ideal S1x256 .f32) (r : Fin 128) (d : Fin 256) :
    project e w s b (ix3 0 r d)
      = (∑ kk : Fin 128, e (ix2 r kk) * ((w (ix3 0 kk d) : EReal) * (s (ix3 0 kk d) : EReal)) : EReal) + (b (ix2 0 d) : EReal) := by
  unfold project
  pointwise

/-- The output block at row `T` and column `256·h + d`. -/
theorem block_apply (x0 : Vec Ideal S1x32x4096 .i32) (x1 : Vec Ideal S4x4x8x8x128 .i32) (x2 : Vec Ideal S2x128x256 .fp8e4m3)
    (x3 : Vec Ideal S2x128x256 .bf16) (x4 : Vec Ideal S2x256 .f32) (T : Fin 4096) (h : Fin 2) (d : Fin 256) (y : S1x4096x512.Idx)
    (h1 : (y 1).val = T.val) (h2 : (y 2).val = 256 * h.val + d.val) :
    block x0 x1 x2 x3 x4 y
      = (∑ kk : Fin 128, entry x0 x1 T h kk * ((x2 (ix3 h kk d) : EReal) * (x3 (ix3 h kk d) : EReal)) : EReal) + (x4 (ix2 h d) : EReal) := by
  have hT := T.isLt
  have ht : T.val / 128 < k0_t1_loop.trips := by rw [trips_eq]; omega
  have hr : T.val = 128 * (⟨T.val / 128, ht⟩ : Fin k0_t1_loop.trips).val + (⟨T.val % 128, Nat.mod_lt _ (by decide)⟩ : Fin 128).val :=
    (Nat.div_add_mod _ _).symm
  match h with
  | 0 =>
    rw [block_left x0 x1 x2 x3 x4 ⟨T.val / 128, ht⟩ ⟨T.val % 128, Nat.mod_lt _ (by decide)⟩ d y (h1.trans hr) (by rw [h2]; exact Nat.zero_add _)]
    unfold left
    rw [project_apply]
    congr 1
    · refine Finset.sum_congr rfl fun kk _ => ?_
      congr 1
      · rw [← embed_entry x0 x1 _ _ T hr 0 kk ⟨kk.val, by omega⟩ (Nat.zero_add _).symm]
        pointwise
      · congr 1 <;>
        · refine View.ld_unit_apply_of _ _ _ _ _ (ix3 0 kk d) fun a => ?_
          match a with
          | ⟨0, _⟩ => rfl
          | ⟨1, _⟩ => exact (Nat.zero_add _).symm
          | ⟨2, _⟩ => exact (Nat.zero_add _).symm
    · refine View.ld_unit_apply_of _ _ _ _ _ (ix2 0 d) fun a => ?_
      match a with
      | ⟨0, _⟩ => rfl
      | ⟨1, _⟩ => exact (Nat.zero_add _).symm
  | 1 =>
    rw [block_right x0 x1 x2 x3 x4 ⟨T.val / 128, ht⟩ ⟨T.val % 128, Nat.mod_lt _ (by decide)⟩ d y (h1.trans hr) (by rw [h2]; rfl)]
    unfold right
    rw [project_apply]
    congr 1
    · refine Finset.sum_congr rfl fun kk _ => ?_
      congr 1
      · rw [← embed_entry x0 x1 _ _ T hr 1 kk ⟨128 + kk.val, by omega⟩ rfl]
        pointwise
      · congr 1 <;>
        · refine View.ld_unit_apply_of _ _ _ _ _ (ix3 1 kk d) fun a => ?_
          match a with
          | ⟨0, _⟩ => rfl
          | ⟨1, _⟩ => exact (Nat.zero_add _).symm
          | ⟨2, _⟩ => exact (Nat.zero_add _).symm
    · refine View.ld_unit_apply_of _ _ _ _ _ (ix2 1 d) fun a => ?_
      match a with
      | ⟨0, _⟩ => rfl
      | ⟨1, _⟩ => exact (Nat.zero_add _).symm

end Cert.KernelIdeal.Value

end
-- ==== Proof.HostValue.lean ====
/-
  What the kernel's host lines hand to its region, at an index, from the program's arguments.
-/
module

public import proofs.«01_k».proof.Proof.BlockValue
public import Idealize.ShloMosaic.Lib.BitcastConvert
public import Idealize.ShloMosaic.Lib.ValueIdxRank6

@[expose] public section

set_option maxRecDepth 16384

noncomputable section

namespace Cert.KernelIdeal.Value
open Idealize.ShloMosaic Idealize.ShloMosaic.TcCoe Idealize.ShloMosaic.Tactic
open Cert.KernelIdeal Cert.KernelIdeal.Gen

variable {F : FTy → Type} [FloatOps F]

/-- The table the kernel's registers hold, from the codebooks. -/
def tableOf (cb : Vec F S32x1024x8 .i16) : Vec F S4x4x8x8x128 .i32 :=
  transpose S4x4x8x8x128 [0, 4, 2, 1, 3]
    (Host.bitcastConvertWiden S4x8x8x128x4 32 (shapeCast S4x8x8x128x4x2 cb shapeCasts_S32x1024x8_S4x8x8x128x4x2)
      splits_S4x8x8x128x4_w32_S4x8x8x128x4x2_w16)
    transposes_S4x8x8x128x4_S4x4x8x8x128_0_4_2_1_3

/-- The rows of the projection in the kernel's order. -/
def rowsOf {α : Type} (x : S32x8x256.Idx → α) : S2x128x256.Idx → α :=
  shapeCast S2x128x256
    (transpose S2x2x4x8x2x256 [0, 1, 3, 2, 4, 5] (shapeCast S2x2x8x4x2x256 x shapeCasts_S32x8x256_S2x2x8x4x2x256)
      transposes_S2x2x8x4x2x256_S2x2x4x8x2x256_0_1_3_2_4_5)
    shapeCasts_S2x2x4x8x2x256_S2x128x256

/-- The scales repeated along the entries of a level. -/
def scaleOf (x : FVec F S32x256 .f32) : FVec F S32x8x256 .bf16 :=
  broadcastInDim S32x8x256 ![0, 1, 2] bcast_S32x1x256_S32x8x256_0_1_2
    (broadcastInDim S32x1x256 ![0, 2] bcast_S32x256_S32x1x256_0_2 (truncf .bf16 x bitsLt_bf16_f32))

/-- The bias summed over the levels of each half. -/
def biasOf (x : FVec F S32x256 .f32) : FVec F S2x256 .f32 :=
  Host.reduceAdd (shapeCast S2x16x256 x shapeCasts_S32x256_S2x16x256) (constant S_ .f32 0x00000000#32) reducesTo_S2x16x256_S2x256_d1 h_S_

/-- A word of the table: its half `b` is the codebook's entry `2·p + b`. -/
theorem tableOf_apply (cb : Vec F S32x1024x8 .i16) (g p : Fin 4) (q s : Fin 8) (l : Fin 128) (b : Fin 2) (lv : Fin 32) (n : Fin 1024)
    (e : Fin 8) (hl : lv.val = 8 * g.val + s.val) (hn : n.val = 128 * q.val + l.val) (he : e.val = 2 * p.val + b.val) :
    (tableOf cb (ix5 g p q s l) : BitVec 32).extractLsb' (16 * b.val) 16 = cb (ix3 lv n e) := by
  have ht : tableOf cb (ix5 g p q s l)
      = Host.bitcastConvertWiden S4x8x8x128x4 32 (shapeCast S4x8x8x128x4x2 cb shapeCasts_S32x1024x8_S4x8x8x128x4x2)
          splits_S4x8x8x128x4_w32_S4x8x8x128x4x2_w16 (ix5 g s q l p) := by
    unfold tableOf
    generalize Host.bitcastConvertWiden S4x8x8x128x4 32 _ _ = y
    pointwise
  have hs (b : Fin 2) (e : Fin 8) (he : e.val = 2 * p.val + b.val) :
      shapeCast S4x8x8x128x4x2 cb shapeCasts_S32x1024x8_S4x8x8x128x4x2
        (splits_S4x8x8x128x4_w32_S4x8x8x128x4x2_w16.snoc (ix5 g s q l p) b) = cb (ix3 lv n e) := by
    refine shapeCast_apply _ _ _ _ ?_
    rw [Shape.rowMajor_val_three, Shape.rowMajor_val_six]
    show (lv.val * 1024 + n.val) * 8 + e.val = ((((g.val * 8 + s.val) * 8 + q.val) * 128 + l.val) * 4 + p.val) * 2 + b.val
    omega
  rw [ht, Host.bitcastConvertWiden_apply_16_32]
  match b with
  | 0 =>
    rw [← hs 0 e he]
    exact BitVec.extractLsb'_append_eq_right
  | 1 =>
    rw [← hs 1 e he]
    exact BitVec.extractLsb'_append_eq_left

/-- A row of the projection: entry `kk` of half `h` is the level's entry `2·pair + half`. -/
theorem rowsOf_apply {α : Type} (x : S32x8x256.Idx → α) (h : Fin 2) (kk : Fin 128) (d : Fin 256) (e : Fin 8)
    (he : e.val = 2 * (pair kk).val + (par kk).val) : rowsOf x (ix3 h kk d) = x (ix3 (lev h kk) e d) := by
  have hp : (pair kk).val = kk.val / 16 % 4 := rfl
  have hs : (sub kk).val = kk.val / 2 % 8 := rfl
  have hb : (par kk).val = kk.val % 2 := rfl
  have hl : (lev h kk).val = 8 * (2 * h.val + kk.val / 64) + kk.val / 2 % 8 := rfl
  have hk := kk.isLt
  unfold rowsOf
  rw [shapeCast_apply _ _ _ (ix6 h (⟨kk.val / 64, by omega⟩ : Fin 2) (pair kk) (sub kk) (par kk) d) (by
    rw [Shape.rowMajor_val_three, Shape.rowMajor_val_six]
    show ((((h.val * 2 + kk.val / 64) * 4 + (pair kk).val) * 8 + (sub kk).val) * 2 + (par kk).val) * 256 + d.val = (h.val * 128 + kk.val) * 256 + d.val
    omega)]
  have ht (y : S2x2x8x4x2x256.Idx → α) :
      transpose S2x2x4x8x2x256 [0, 1, 3, 2, 4, 5] y transposes_S2x2x8x4x2x256_S2x2x4x8x2x256_0_1_3_2_4_5
        (ix6 h (⟨kk.val / 64, by omega⟩ : Fin 2) (pair kk) (sub kk) (par kk) d) = y (ix6 h (⟨kk.val / 64, by omega⟩ : Fin 2) (sub kk) (pair kk) (par kk) d) := by
    pointwise
  rw [ht]
  refine shapeCast_apply _ _ _ _ ?_
  rw [Shape.rowMajor_val_three, Shape.rowMajor_val_six]
  show ((lev h kk).val * 8 + e.val) * 256 + d.val = ((((h.val * 2 + kk.val / 64) * 8 + (sub kk).val) * 4 + (pair kk).val) * 2 + (par kk).val) * 256 + d.val
  omega

/-- The repeated scales, over the extended reals. -/
theorem scaleOf_apply (x : FVec Ideal S32x256 .f32) (l : Fin 32) (e : Fin 8) (d : Fin 256) : scaleOf x (ix3 l e d) = x (ix2 l d) := by
  unfold scaleOf
  pointwise

variable (m : (ℓ : Loc nD τ sig) → Buf (Elt F) ℓ) (c : Dev nD)

/-- The codes the region finds. -/
theorem V_codes : V m c main_v0 = transpose S96x32x4096 [0, 2, 1] (m ((c : Thread nD τ).loc main_arg0)) transposes_S96x4096x32_S96x32x4096_0_2_1 := by
  unfold V; after_results; try rfl
/-- The table the region finds. -/
theorem V_table : V m c main_v3 = tableOf (F := F) (m ((c : Thread nD τ).loc main_arg1)) := by
  unfold V; after_results; try rfl
/-- The weights the region finds. -/
theorem V_weights : V m c main_v11 = rowsOf (m ((c : Thread nD τ).loc main_arg2)) := by
  unfold V; after_results; try rfl
/-- The scales the region finds. -/
theorem V_scale : V m c main_v14 = rowsOf (scaleOf (F := F) (m ((c : Thread nD τ).loc main_arg3))) := by
  unfold V; after_results; try rfl
/-- The bias the region finds. -/
theorem V_bias : V m c main_v8 = biasOf (F := F) (m ((c : Thread nD τ).loc main_arg4)) := by
  unfold V; after_results; try rfl

end Cert.KernelIdeal.Value

end
-- ==== Proof.KernelRun.lean ====
/-
  The kernel's run over the extended reals: its result array, index by index, from the program's arguments.
-/
module

public import proofs.«01_k».proof.Proof.HostValue

@[expose] public section

set_option maxRecDepth 16384

noncomputable section

namespace Cert.KernelIdeal.Value
open Idealize.ShloMosaic Idealize.ShloMosaic.TcCoe Idealize.ShloMosaic.Tactic Idealize.SL.Sem
open Idealize.ShloMosaic.Pipeline (Dat)
open Cert.KernelIdeal Cert.KernelIdeal.Gen

/-- The codebook entry `e` of level `l` at a code, the code taken modulo 1024, as a number. -/
def picked (cb : Vec Ideal S32x1024x8 .i16) (l : Fin 32) (code : BitVec 32) (e : Fin 8) : EReal :=
  FloatOps.ofBits (F := Ideal) .bf16 (cb (ix3 l ⟨code.toNat % 1024, Nat.mod_lt _ (by decide)⟩ e) : BitVec 16)

/-- The entry of a level that entry `kk` of a half is. -/
def ent (kk : Fin 128) : Fin 8 := ⟨2 * (pair kk).val + (par kk).val, by omega⟩

/-- The kernel's result at batch row `b`, token `T`, half `h`, column `d`. -/
def result (codes : Vec Ideal S96x4096x32 .i32) (cb : Vec Ideal S32x1024x8 .i16) (pc : Vec Ideal S32x8x256 .fp8e4m3)
    (ps : FVec Ideal S32x256 .f32) (bias : FVec Ideal S32x256 .f32) (b : Fin 96) (T : Fin 4096) (h : Fin 2) (d : Fin 256) : EReal :=
  (∑ kk : Fin 128, picked cb (lev h kk) (codes (ix3 b T (lev h kk))) (ent kk)
      * ((pc (ix3 (lev h kk) (ent kk) d) : EReal) * (ps (ix2 (lev h kk) d) : EReal)) : EReal) + (biasOf (F := Ideal) bias (ix2 h d) : EReal)

/-- The kernel's result array. -/
def resultArr (codes : Vec Ideal S96x4096x32 .i32) (cb : Vec Ideal S32x1024x8 .i16) (pc : Vec Ideal S32x8x256 .fp8e4m3)
    (ps : FVec Ideal S32x256 .f32) (bias : FVec Ideal S32x256 .f32) : FVec Ideal S96x4096x512 .bf16 := fun y =>
  result codes cb pc ps bias (y 0) (y 1) ⟨(y 2).val / 256, by have h : (y 2).val < 512 := (y 2).isLt; omega⟩
    ⟨(y 2).val % 256, Nat.mod_lt _ (by decide)⟩

/-- The windows' blocks: the codes and the result move with the point, the others stay. -/
theorem idx : ∀ t : Fin cfg0.N, win0_0.index t = ![t.val, 0, 0] ∧ win0_1.index t = ![0, 0, 0, 0, 0] ∧ win0_2.index t = ![0, 0, 0]
    ∧ win0_3.index t = ![0, 0, 0] ∧ win0_4.index t = ![0, 0] ∧ win0_5.index t = ![t.val, 0, 0] :=
  (by decide +kernel : ∀ t : Fin grid0.N, _)

variable (m : (ℓ : Loc nD τ sig) → Buf (Elt Ideal) ℓ) (c : Dev nD)

/-- The codes' block of point `t`: batch row `t`. -/
theorem iblk0 (t : Fin cfg0.N) (l : Fin 32) (T : Fin 4096) (b : Fin 96) (hb : b.val = t.val) :
    iblk m c 0 t (ix3 0 l T) = m ((c : Thread nD τ).loc main_arg0) (ix3 b T l) := by
  have e : iblk m c 0 t (ix3 0 l T) = V m c main_v0 (ix3 b l T) := by
    blk_ext [iblk, idx t]
  rw [e, V_codes]
  pointwise
/-- The table's block is the table. -/
theorem iblk1 (t : Fin cfg0.N) : iblk m c 1 t = tableOf (F := Ideal) (m ((c : Thread nD τ).loc main_arg1)) := by
  rw [← V_table]
  blk_ext! [iblk, idx t]
/-- The weights' block is all weights. -/
theorem iblk2 (t : Fin cfg0.N) : iblk m c 2 t = rowsOf (m ((c : Thread nD τ).loc main_arg2)) := by
  rw [← V_weights]
  blk_ext! [iblk, idx t]
/-- The scales' block is all scales. -/
theorem iblk3 (t : Fin cfg0.N) : iblk m c 3 t = rowsOf (scaleOf (F := Ideal) (m ((c : Thread nD τ).loc main_arg3))) := by
  rw [← V_scale]
  blk_ext! [iblk, idx t]
/-- The bias's block is the bias. -/
theorem iblk4 (t : Fin cfg0.N) : iblk m c 4 t = biasOf (F := Ideal) (m ((c : Thread nD τ).loc main_arg4)) := by
  rw [← V_bias]
  blk_ext! [iblk, idx t]

/-- The entry the blocks give is the codebook's entry at the code, modulo 1024. -/
theorem entry_eq (x0 : Vec Ideal S1x32x4096 .i32) (cb : Vec Ideal S32x1024x8 .i16) (T : Fin 4096) (h : Fin 2) (kk : Fin 128)
    (code : BitVec 32) (hx : x0 (ix3 0 (lev h kk) T) = code) :
    entry x0 (tableOf (F := Ideal) cb) T h kk = picked cb (lev h kk) code (ent kk) := by
  subst hx
  unfold entry picked
  refine congrArg (FloatOps.ofBits (F := Ideal) .bf16) ?_
  refine tableOf_apply (F := Ideal) cb _ _ _ _ _ _ (lev h kk) _ (ent kk) rfl ?_ rfl
  show (x0 (ix3 0 (lev h kk) T) : BitVec 32).toNat % 1024
    = 128 * ((x0 (ix3 0 (lev h kk) T) : BitVec 32).toNat / 128 % 8) + (x0 (ix3 0 (lev h kk) T) : BitVec 32).toNat % 128
  omega

/-- The output block over one batch row of the codes is that row of the result array. -/
theorem block_result (x0 : Vec Ideal S1x32x4096 .i32) (codes : Vec Ideal S96x4096x32 .i32) (cb : Vec Ideal S32x1024x8 .i16)
    (pc : Vec Ideal S32x8x256 .fp8e4m3) (ps : FVec Ideal S32x256 .f32) (bias : FVec Ideal S32x256 .f32) (b : Fin 96)
    (hx : ∀ (l : Fin 32) (T : Fin 4096), x0 (ix3 0 l T) = codes (ix3 b T l)) (T : Fin 4096) (C : Fin 512) (y : S1x4096x512.Idx)
    (h1 : (y 1).val = T.val) (h2 : (y 2).val = C.val) :
    block x0 (tableOf (F := Ideal) cb) (rowsOf pc) (rowsOf (scaleOf (F := Ideal) ps)) (biasOf (F := Ideal) bias) y
      = resultArr codes cb pc ps bias (ix3 b T C) := by
  rw [block_apply _ _ _ _ _ T ⟨C.val / 256, by omega⟩ ⟨C.val % 256, Nat.mod_lt _ (by decide)⟩ y h1 (h2.trans (Nat.div_add_mod _ _).symm)]
  show _ = result codes cb pc ps bias b T ⟨C.val / 256, _⟩ ⟨C.val % 256, _⟩
  unfold result
  congr 1
  refine Finset.sum_congr rfl fun kk _ => ?_
  rw [entry_eq x0 cb T _ kk _ (hx _ T), rowsOf_apply _ _ kk _ (ent kk) rfl, rowsOf_apply _ _ kk _ (ent kk) rfl, scaleOf_apply]

/-- What a point's body leaves at a block index is the result array there. -/
theorem point (t : Fin cfg0.N) (y : S1x4096x512.Idx) :
    block (iblk m c 0 t) (iblk m c 1 t) (iblk m c 2 t) (iblk m c 3 t) (iblk m c 4 t) y
      = resultArr (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have ht : t.val < 96 := t.isLt
  have e : ((cfg0.win 5).blk t).view.emb y = ix3 (n0 := 96) (n1 := 4096) (n2 := 512) ⟨t.val, ht⟩ (y 1) (y 2) := by
    blk_ext [idx t]
  rw [e, iblk1, iblk2, iblk3, iblk4]
  exact block_result _ _ _ _ _ _ ⟨t.val, ht⟩ (fun l T => iblk0 m c t l T ⟨t.val, ht⟩ rfl) (y 1) (y 2) y rfl rfl

/-- The result array after the run. -/
theorem final : (dats m 0 c).arrAt 5 (cfgs 0).N
    = resultArr (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  rw [out_eq]
  exact point m c t y

/-- The kernel's run: the result array named, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v15)
        = resultArr (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.Value

end
-- ==== Proof.RefRun.lean ====
/-
  The reference's run: its result as one composed term of the arguments.
-/
module

public import proofs.«01_k».proof.Proof.Gen.ReferenceIdeal.Frame
public import Idealize.ShloMosaic.Lib.Pointwise
public import Idealize.ShloMosaic.Lib.Pipeline.Value
public import Idealize.ShloMosaic.Lib.Pipeline.ValueKit

@[expose] public section

set_option maxRecDepth 16384

noncomputable section

namespace Cert.ReferenceIdeal.Value
open Idealize.ShloMosaic Idealize.ShloMosaic.TcCoe Idealize.ShloMosaic.Tactic Idealize.SL.Sem
open Idealize.ShloMosaic.Pipeline (Dat)
open Cert.ReferenceIdeal Cert.ReferenceIdeal.Gen

variable {F : FTy → Type} [FloatOps F]

/-- The level numbers, a negative one (there is none) wrapped. -/
def levelIdx : IVec S1x1x32 32 :=
  select (cmpi .slt (broadcastInDim S1x1x32 ![2] bcast_S32_S1x1x32_2 (iotaInDim S32 32 0)) (broadcastInDim S1x1x32 ![] bcast_S_S1x1x32 (constantI S_ 32 0#32)))
    (addi (broadcastInDim S1x1x32 ![2] bcast_S32_S1x1x32_2 (iotaInDim S32 32 0)) (broadcastInDim S1x1x32 ![] bcast_S_S1x1x32 (constantI S_ 32 32#32)))
    (broadcastInDim S1x1x32 ![2] bcast_S32_S1x1x32_2 (iotaInDim S32 32 0))

/-- The codes, a negative one wrapped by the codebook's size. -/
def codeIdx (codes : IVec S96x4096x32 32) : IVec S96x4096x32 32 :=
  select (cmpi .slt codes (broadcastInDim S96x4096x32 ![] bcast_S_S96x4096x32 (constantI S_ 32 0#32)))
    (addi codes (broadcastInDim S96x4096x32 ![] bcast_S_S96x4096x32 (constantI S_ 32 1024#32))) codes

/-- The pairs (level, code) of the lookup. -/
def pairIdx (codes : IVec S96x4096x32 32) : IVec S96x4096x32x2 32 :=
  concatenate S96x4096x32x2 3
    [⟨S96x4096x32x1, broadcastInDim S96x4096x32x1 ![0, 1, 2] bcast_S96x4096x32_S96x4096x32x1_0_1_2
      (broadcastInDim S96x4096x32 ![0, 1, 2] bcast_S1x1x32_S96x4096x32_0_1_2 levelIdx)⟩,
     ⟨S96x4096x32x1, broadcastInDim S96x4096x32x1 ![0, 1, 2] bcast_S96x4096x32_S96x4096x32x1_0_1_2 (codeIdx codes)⟩]
    concatenates_S96x4096x32x1_S96x4096x32x1_S96x4096x32x2_d3

/-- The embeddings looked up. -/
def lookup (codes : IVec S96x4096x32 32) (cb : IVec S32x1024x8 16) : FVec F S96x4096x32x8 .bf16 :=
  Host.gather gather_S32x1024x8_S96x4096x32x2_S96x4096x32x8_3_01_n_n_01_3_118 (bitcastToFloat .bf16 cb) (pairIdx codes)

/-- The bias summed over the levels of each half. -/
def biasOf (bias : FVec F S32x256 .f32) : FVec F S2x256 .f32 :=
  Host.reduceAdd (shapeCast S2x16x256 bias shapeCasts_S32x256_S2x16x256) (constant S_ .f32 0x00000000#32) reducesTo_S2x16x256_S2x256_d1 h_S_

/-- The lines after the region, as a function of the weights, the embeddings and the bias. -/
def tailOf (w : FVec F S32x8x256 .bf16) (e : FVec F S96x4096x2x128 .bf16) (bias : FVec F S32x256 .f32) : FVec F S96x4096x512 .bf16 :=
  truncf .bf16
    (shapeCast S96x4096x512
      (addf
        (transpose S96x4096x2x256 [2, 3, 0, 1]
          (Host.dotGeneral dot_S2x128x256_S96x4096x2x128_S2x256x96x4096_1_3_2_01_0_2 none
            (shapeCast S2x128x256 w shapeCasts_S32x8x256_S2x128x256) e)
          transposes_S2x256x96x4096_S96x4096x2x256_2_3_0_1)
        (broadcastInDim S96x4096x2x256 ![0, 1, 2, 3] bcast_S1x1x2x256_S96x4096x2x256_0_1_2_3
          (broadcastInDim S1x1x2x256 ![2, 3] bcast_S2x256_S1x1x2x256_2_3 (biasOf bias))))
      shapeCasts_S96x4096x2x256_S96x4096x512)
    bitsLt_bf16_f32

/-- The reference's result as one term of its arguments. -/
def resultArr (codes : Vec F S96x4096x32 .i32) (cb : Vec F S32x1024x8 .i16) (pc : Vec F S32x8x256 .fp8e4m3)
    (ps : FVec F S32x256 .f32) (bias : FVec F S32x256 .f32) : FVec F S96x4096x512 .bf16 :=
  tailOf (k0_pay1 pc ps) (shapeCast S96x4096x2x128 (lookup codes cb) shapeCasts_S96x4096x32x8_S96x4096x2x128) bias

variable (m : (ℓ : Loc nD τ sig) → Buf (Elt F) ℓ) (c : Dev nD)

/-- The embeddings the region leaves in place. -/
theorem V_embed : V m c main_v18 = shapeCast S96x4096x2x128
    (lookup (F := F) (m ((c : Thread nD τ).loc main_arg0)) (m ((c : Thread nD τ).loc main_arg1))) shapeCasts_S96x4096x32x8_S96x4096x2x128 := by
  unfold V V0; rw [List.flatten_cons, List.flatten_nil, List.append_nil]; after_results; try rfl

/-- The lines after the region read at the result. -/
theorem tail_eq (W : Valuation τ sig (Elt F)) : StableHlo.after ([hostOps1] : List (List (HloOp τ sig (Elt F)))).flatten W (Proc.devRef .tc main_v29)
    = tailOf (F := F) (W (Proc.devRef .tc main_v19)) (W (Proc.devRef .tc main_v18)) (W (Proc.devRef .tc main_arg4)) := by
  rw [List.flatten_cons, List.flatten_nil, List.append_nil]; after_results; try rfl

/-- The windows' block indices: all 0, the grid has one point. -/
theorem idx (t : Fin cfg0.N) :
    (∀ q, win0_0.index t q = 0) ∧ (∀ q, win0_1.index t q = 0) ∧ (∀ q, win0_2.index t q = 0) := by
  revert t; decide +kernel

/-- The lines after the region at equal operands. -/
theorem tail_congr {w w' : FVec F S32x8x256 .bf16} {e e' : FVec F S96x4096x2x128 .bf16} {b b' : FVec F S32x256 .f32}
    (hw : w = w') (he : e = e') (hb : b = b') : tailOf w e b = tailOf w' e' b' := by rw [hw, he, hb]

/-- The weights' array after the region. -/
theorem final : (dats m 0 c).arrAt 2 (cfgs 0).N
    = k0_pay1 (F := F) (m ((c : Thread nD τ).loc main_arg2)) (m ((c : Thread nD τ).loc main_arg3)) := by
  refine (dats m 0 c).arrAt_eq_of_covers 2 _ (by decide +kernel) fun t _ y => ?_
  blk_simp
  rw [after0_2]; frame_out
  have h0 : iblk m c 0 t = m ((c : Thread nD τ).loc main_arg2) := by
    rw [← V_main_arg2 m c]; exact funext fun z => by blk_ext [iblk, idx t]
  have h1 : iblk m c 1 t = m ((c : Thread nD τ).loc main_arg3) := by
    rw [← V_main_arg3 m c]; exact funext fun z => by blk_ext [iblk, idx t]
  have hy : ((View.whole main_v19).slice (win0_2.rect t)).emb y = y := by
    blk_ext [idx t]
  rw [hy, h0, h1]

/-- The result buffer after the run. -/
theorem tail_result : Pipeline.afterTail₀ cfgs (dats m) 0 (V0 m) [hostOps1] c main_v29
    = resultArr (F := F) (m ((c : Thread nD τ).loc main_arg0)) (m ((c : Thread nD τ).loc main_arg1)) (m ((c : Thread nD τ).loc main_arg2))
      (m ((c : Thread nD τ).loc main_arg3)) (m ((c : Thread nD τ).loc main_arg4)) := by
  unfold Pipeline.afterTail₀
  exact (tail_eq _).trans (tail_congr
    ((Pipeline.withArrays_arr _ launch0.win.arr_inj c (V0 m c) _ 2).trans (final m c))
    ((Pipeline.withArrays_of_ne _ c (V0 m c) _ main_v18 (by exact (by decide : ∀ w, Pipeline.arrRef spec0 w ≠ main_v18))).trans (V_embed m c))
    ((Pipeline.withArrays_of_ne _ c (V0 m c) _ main_arg4 (by exact (by decide : ∀ w, Pipeline.arrRef spec0 w ≠ main_arg4))).trans (V_main_arg4 m c)))

/-- The reference's run: the result named, the arguments unchanged. -/
theorem run (ρ : Dev nD → PrngReg) : θ_run defs (onTc (τ := τ) (main (F := F))) ⟨m, fun _ => 0, ρ⟩ fun r => ∀ c : Dev nD,
    r.2.mem ((c : Thread nD τ).loc main_v29)
        = resultArr (F := F) (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).2 main_v29 (Pipeline.mem_restRefs_of main_v29 (by decide) (by decide))).trans (tail_result m c), h.2 c⟩)
    (θ_run_and (run_main m ρ) (unchanged m ρ))

end Cert.ReferenceIdeal.Value

end
-- ==== Proof.RefValue.lean ====
/-
  The reference's result read at an index.
-/
module

public import proofs.«01_k».proof.Proof.RefRun
public import Idealize.ShloMosaic.Lib.Pointwise
public import Idealize.ShloMosaic.Lib.WordCmp
public import Idealize.ShloMosaic.Lib.ValueIdxRank6

@[expose] public section

set_option maxRecDepth 16384

noncomputable section

namespace Cert.ReferenceIdeal.Value
open Idealize.ShloMosaic Idealize.ShloMosaic.TcCoe Idealize.ShloMosaic.Tactic Idealize.SL.Sem
open Cert.ReferenceIdeal Cert.ReferenceIdeal.Gen

/-- The codebook lookup read at an index: the row of the pair of start indices, each read signed and clamped. -/
theorem gather_apply {α : Type} (x : S32x1024x8.Idx → α) (p : IVec S96x4096x32x2 32) (b : Fin 96) (T : Fin 4096) (l : Fin 32) (e : Fin 8) :
    Host.gather gather_S32x1024x8_S96x4096x32x2_S96x4096x32x8_3_01_n_n_01_3_118 x p (ix4 b T l e)
      = x (ix3 ⟨min (p (ix4 b T l (0 : Fin 2))).toInt.toNat 31, by omega⟩ ⟨min (p (ix4 b T l (1 : Fin 2))).toInt.toNat 1023, by omega⟩ e) := by
  generalize hd : gather_S32x1024x8_S96x4096x32x2_S96x4096x32x8_3_01_n_n_01_3_118 = d
  have hcoll : d.collapsedSliceDims = [0, 1] := by subst hd; rfl
  have hob : ∀ a, d.batchCoord (ix4 b T l e) a = 0 := fun a => d.batchCoord_eq_zero _ _ (by subst hd; exact List.not_mem_nil)
  have hsim : d.startIndexMap = [0, 1] := by subst hd; rfl
  unfold Host.gather
  refine congrArg x (funext fun a => Fin.ext ?_)
  show d.start (ix4 b T l e) p a + d.batchCoord (ix4 b T l e) a + d.offCoord (ix4 b T l e) a = _
  rw [hob]
  match a with
  | ⟨0, _⟩ =>
    rw [d.offCoord_eq_zero _ _ fun h => ((d.mem_sKept _).1 h).1 (by rw [hcoll]; exact List.mem_cons_self)]
    unfold GatherDims.start
    rw [dif_pos (by rw [hsim]; exact List.mem_cons_self)]
    subst hd
    have hsi : ∀ h, (gather_S32x1024x8_S96x4096x32x2_S96x4096x32x8_3_01_n_n_01_3_118).siIdx (ix4 b T l e) ⟨0, h⟩ = ix4 b T l (0 : Fin 2) := fun h => by
      funext q; refine Fin.ext ?_
      match q with
      | ⟨0, _⟩ => rfl
      | ⟨1, _⟩ => rfl
      | ⟨2, _⟩ => rfl
      | ⟨3, _⟩ => rfl
    erw [hsi]
    rfl
  | ⟨1, _⟩ =>
    rw [d.offCoord_eq_zero _ _ fun h => ((d.mem_sKept _).1 h).1 (by rw [hcoll]; exact List.mem_cons_of_mem _ List.mem_cons_self)]
    unfold GatherDims.start
    rw [dif_pos (by rw [hsim]; exact List.mem_cons_of_mem _ List.mem_cons_self)]
    subst hd
    have hsi : ∀ h, (gather_S32x1024x8_S96x4096x32x2_S96x4096x32x8_3_01_n_n_01_3_118).siIdx (ix4 b T l e) ⟨1, h⟩ = ix4 b T l (1 : Fin 2) := fun h => by
      funext q; refine Fin.ext ?_
      match q with
      | ⟨0, _⟩ => rfl
      | ⟨1, _⟩ => rfl
      | ⟨2, _⟩ => rfl
      | ⟨3, _⟩ => rfl
    erw [hsi]
    rfl
  | ⟨2, _⟩ =>
    unfold GatherDims.start
    rw [dif_neg (by rw [hsim]; exact (by decide : (2 : Fin 3) ∉ [(0 : Fin 3), 1]))]
    unfold GatherDims.offCoord
    rw [dif_pos ((d.mem_sKept _).2 ⟨by rw [hcoll]; exact (by decide : (2 : Fin 3) ∉ [(0 : Fin 3), 1]), by subst hd; exact List.not_mem_nil⟩)]
    have e3 : ∀ X : Fin 4, X ∈ d.offsetDims → (ix4 b T l e X).val = e.val := fun X hX => by
      rw [show d.offsetDims = [(3 : Fin 4)] by subst hd; rfl] at hX
      rw [List.mem_singleton.1 hX]; rfl
    rw [e3 _ (List.getElem_mem _)]
    show 0 + 0 + e.val = e.val
    omega

/-- The pair's first component: the level. -/
theorem pairIdx_level (codes : IVec S96x4096x32 32) (b : Fin 96) (T : Fin 4096) (l : Fin 32) :
    pairIdx codes (ix4 b T l (0 : Fin 2)) = levelIdx (ix3 (0 : Fin 1) (0 : Fin 1) l) := by
  unfold pairIdx
  generalize levelIdx = v
  generalize codeIdx codes = w
  pointwise

/-- The pair's second component: the code, wrapped. -/
theorem pairIdx_code (codes : IVec S96x4096x32 32) (b : Fin 96) (T : Fin 4096) (l : Fin 32) :
    pairIdx codes (ix4 b T l (1 : Fin 2)) = codeIdx codes (ix3 b T l) := by
  unfold pairIdx
  generalize levelIdx = v
  generalize codeIdx codes = w
  pointwise

/-- A level's number. -/
theorem levelIdx_apply (l : Fin 32) : (levelIdx (ix3 (0 : Fin 1) (0 : Fin 1) l)).toInt = (l.val : Int) := by
  revert l; decide +kernel

/-- A code wrapped, in words. -/
theorem codeIdx_apply (codes : IVec S96x4096x32 32) (b : Fin 96) (T : Fin 4096) (l : Fin 32) :
    codeIdx codes (ix3 b T l) = if (codes (ix3 b T l)).toInt < 0 then codes (ix3 b T l) + 1024#32 else codes (ix3 b T l) := by
  show Scalar.select (IntOp.cmpi .slt (codes (ix3 b T l)) 0#32) (codes (ix3 b T l) + 1024#32) (codes (ix3 b T l)) = _
  rw [show IntOp.cmpi .slt (codes (ix3 b T l)) 0#32 = BitVec.ofBool (decide ((codes (ix3 b T l)).toInt < (0#32).toInt)) from rfl]
  unfold Scalar.select
  by_cases h : (codes (ix3 b T l)).toInt < 0
  · rw [if_pos h, if_pos (by rw [decide_eq_true (by simpa using h)]; rfl)]
  · rw [if_neg h, if_neg (by rw [decide_eq_false (by simpa using h)]; decide)]

/-- A code of the range, wrapped and clamped, is the code modulo the codebook's size. -/
theorem clamp_eq (x : BitVec 32) (h0 : -1024 ≤ x.toInt) (h1 : x.toInt < 1024) :
    min (if x.toInt < 0 then x + 1024#32 else x).toInt.toNat 1023 = x.toNat % 1024 := by
  have hx := x.isLt
  have h2 : (1024#32).toNat = 1024 := rfl
  by_cases h : x.toInt < 0
  · rw [if_pos h]
    rw [BitVec.toInt_eq_toNat_cond] at h0 h1 h
    have h3 : (x + 1024#32).toNat = x.toNat + 1024 - 2 ^ 32 := by rw [BitVec.toNat_add, h2]; split_ifs at h0 h1 h <;> omega
    rw [BitVec.toInt_eq_toNat_cond, h3]; split_ifs at h0 h1 h ⊢ <;> omega
  · rw [if_neg h]
    rw [BitVec.toInt_eq_toNat_cond] at h0 h1 h ⊢
    split_ifs at h0 h1 h ⊢ <;> omega

/-- The lookup at an index, the codes of the range. -/
theorem lookup_apply (codes : IVec S96x4096x32 32) (cb : IVec S32x1024x8 16)
    (h : ∀ i, -1024 ≤ (codes i).toInt ∧ (codes i).toInt < 1024)
    (b : Fin 96) (T : Fin 4096) (l : Fin 32) (e : Fin 8) : lookup (F := Ideal) codes cb (ix4 b T l e)
      = FloatOps.ofBits (F := Ideal) .bf16 (cb (ix3 l ⟨(codes (ix3 b T l)).toNat % 1024, Nat.mod_lt _ (by decide)⟩ e)) := by
  unfold lookup
  rw [gather_apply]
  show FloatOps.ofBits (F := Ideal) .bf16 (cb _) = _
  congr 2
  refine congrArg₂ (fun u v => ix3 u v e) (Fin.ext ?_) (Fin.ext ?_)
  · show min (pairIdx codes (ix4 b T l (0 : Fin 2))).toInt.toNat 31 = l.val
    rw [pairIdx_level, levelIdx_apply]; omega
  · show min (pairIdx codes (ix4 b T l (1 : Fin 2))).toInt.toNat 1023 = _
    rw [pairIdx_code, codeIdx_apply]; exact clamp_eq _ (h _).1 (h _).2

/-- The weights at an index. -/
theorem weights_apply (pc : Vec Ideal S32x8x256 .fp8e4m3) (ps : FVec Ideal S32x256 .f32) (l : Fin 32) (e : Fin 8) (d : Fin 256) :
    k0_pay1 (F := Ideal) pc ps (ix3 l e d) = (pc (ix3 l e d) : EReal) * (ps (ix2 l d) : EReal) := by
  pointwise [k0_pay1]

/-- The level of a row of a half's weights. -/
def lev (h : Fin 2) (k : Fin 128) : Fin 32 := ⟨16 * h.val + k.val / 8, by omega⟩

/-- The entry of a row of a half's weights. -/
def ent (k : Fin 128) : Fin 8 := ⟨k.val % 8, by omega⟩

/-- The lines after the region at an index. -/
theorem tail_apply (w : FVec Ideal S32x8x256 .bf16) (x : FVec Ideal S96x4096x32x8 .bf16) (bias : FVec Ideal S32x256 .f32)
    (b : Fin 96) (T : Fin 4096) (h : Fin 2) (d : Fin 256) :
    tailOf w (shapeCast S96x4096x2x128 x shapeCasts_S96x4096x32x8_S96x4096x2x128) bias (ix3 b T ⟨256 * h.val + d.val, by omega⟩)
      = (∑ k : Fin 128, (w (ix3 (lev h k) (ent k) d) : EReal) * (x (ix4 b T (lev h k) (ent k)) : EReal)) + (biasOf bias (ix2 h d) : EReal) := by
  have hw : ∀ k : Fin 128, shapeCast S2x128x256 w shapeCasts_S32x8x256_S2x128x256 (ix3 h k d) = w (ix3 (lev h k) (ent k) d) := fun k => by
    refine shapeCast_apply _ _ _ (ix3 (lev h k) (ent k) d) ?_
    rw [Shape.rowMajor_val_three, Shape.rowMajor_val_three]
    show ((16 * h.val + k.val / 8) * 8 + k.val % 8) * 256 + d.val = (h.val * 128 + k.val) * 256 + d.val
    omega
  have hx : ∀ k : Fin 128, shapeCast S96x4096x2x128 x shapeCasts_S96x4096x32x8_S96x4096x2x128 (ix4 b T h k) = x (ix4 b T (lev h k) (ent k)) := fun k => by
    refine shapeCast_apply _ _ _ (ix4 b T (lev h k) (ent k)) ?_
    rw [Shape.rowMajor_val_four, Shape.rowMajor_val_four]
    show ((b.val * 4096 + T.val) * 32 + (16 * h.val + k.val / 8)) * 8 + k.val % 8 = ((b.val * 4096 + T.val) * 2 + h.val) * 128 + k.val
    omega
  unfold tailOf
  generalize shapeCast S2x128x256 w shapeCasts_S32x8x256_S2x128x256 = w' at hw ⊢
  generalize shapeCast S96x4096x2x128 x shapeCasts_S96x4096x32x8_S96x4096x2x128 = x' at hx ⊢
  generalize biasOf bias = b'
  simp only [← hw, ← hx]
  clear hw hx
  have key : ∀ y : FVec Ideal S96x4096x2x256 .f32, truncf .bf16 (shapeCast S96x4096x512 y shapeCasts_S96x4096x2x256_S96x4096x512) bitsLt_bf16_f32
      (ix3 b T ⟨256 * h.val + d.val, by omega⟩) = y (ix4 b T h d) := fun y => by
    show shapeCast S96x4096x512 y shapeCasts_S96x4096x2x256_S96x4096x512 _ = _
    refine shapeCast_apply _ _ _ (ix4 b T h d) ?_
    rw [Shape.rowMajor_val_three, Shape.rowMajor_val_four]
    show ((b.val * 4096 + T.val) * 2 + h.val) * 256 + d.val = (b.val * 4096 + T.val) * 512 + (256 * h.val + d.val)
    omega
  rw [key]
  pointwise

end Cert.ReferenceIdeal.Value

end
-- ==== Proof.Equal.lean ====
/-
  The kernel's result array and the reference's are equal, for codes of the range.
-/
module

public import proofs.«01_k».proof.Proof.KernelRun
public import proofs.«01_k».proof.Proof.RefValue
public import proofs.«01_k».proof.Proof.Gen.Pre_codes_in_range

@[expose] public section

set_option maxRecDepth 16384

noncomputable section

namespace Cert.Equal
open Idealize.ShloMosaic Idealize.ShloMosaic.TcCoe Idealize.ShloMosaic.Tactic Idealize.SL.Sem
open Cert.KernelIdeal (S96x4096x32 S32x1024x8 S32x8x256 S32x256 S96x4096x512 S2x256)

/-- Where the reference keeps the row of a half's weights that the kernel keeps at `k`:
    the kernel orders a half's rows by group, pair, level and parity, the reference by group, level, pair and parity. -/
def fwd (k : Fin 128) : Fin 128 := ⟨64 * (k.val / 64) + 8 * (k.val / 2 % 8) + 2 * (k.val / 16 % 4) + k.val % 2, by omega⟩

/-- Where the kernel keeps the row that the reference keeps at `k`. -/
def bwd (k : Fin 128) : Fin 128 := ⟨64 * (k.val / 64) + 16 * (k.val / 2 % 4) + 2 * (k.val / 8 % 8) + k.val % 2, by omega⟩

/-- The reordering of a half's rows. -/
def perm : Fin 128 ≃ Fin 128 where
  toFun := fwd
  invFun := bwd
  left_inv := by decide +kernel
  right_inv := by decide +kernel

/-- A row's level is the same in both orders. -/
theorem lev_eq (h : Fin 2) (k : Fin 128) : ReferenceIdeal.Value.lev h (perm k) = KernelIdeal.Value.lev h k :=
  Fin.ext (by
    show 16 * h.val + (64 * (k.val / 64) + 8 * (k.val / 2 % 8) + 2 * (k.val / 16 % 4) + k.val % 2) / 8 = 8 * (2 * h.val + k.val / 64) + k.val / 2 % 8
    omega)

/-- A row's entry of its level is the same in both orders. -/
theorem ent_eq (k : Fin 128) : ReferenceIdeal.Value.ent (perm k) = KernelIdeal.Value.ent k :=
  Fin.ext (by
    show (64 * (k.val / 64) + 8 * (k.val / 2 % 8) + 2 * (k.val / 16 % 4) + k.val % 2) % 8 = 2 * (k.val / 16 % 4) + k.val % 2
    omega)

/-- The two bias sums are one. -/
theorem bias_eq (bias : FVec Ideal S32x256 .f32) : ReferenceIdeal.Value.biasOf (F := Ideal) bias = KernelIdeal.Value.biasOf (F := Ideal) bias := rfl

variable (codes : Vec Ideal S96x4096x32 .i32) (cb : Vec Ideal S32x1024x8 .i16) (pc : Vec Ideal S32x8x256 .fp8e4m3)
  (ps bias : FVec Ideal S32x256 .f32)

/-- The results at a batch row, token, half and column. -/
theorem result_eq (hr : ∀ i, -1024 ≤ (codes i : BitVec 32).toInt ∧ (codes i : BitVec 32).toInt < 1024)
    (b : Fin 96) (T : Fin 4096) (h : Fin 2) (d : Fin 256) :
    ReferenceIdeal.Value.resultArr (F := Ideal) codes cb pc ps bias (ix3 b T ⟨256 * h.val + d.val, by omega⟩)
      = KernelIdeal.Value.result codes cb pc ps bias b T h d := by
  refine (ReferenceIdeal.Value.tail_apply _ _ _ b T h d).trans ?_
  unfold KernelIdeal.Value.result
  rw [bias_eq]
  refine congrArg (· + _) ?_
  rw [← Equiv.sum_comp perm]
  refine Finset.sum_congr rfl fun k _ => ?_
  rw [ReferenceIdeal.Value.weights_apply, ReferenceIdeal.Value.lookup_apply codes cb hr, lev_eq, ent_eq, mul_comm]
  rfl

/-- The result arrays are equal. -/
theorem arr_eq (hr : ∀ i, -1024 ≤ (codes i : BitVec 32).toInt ∧ (codes i : BitVec 32).toInt < 1024) :
    ReferenceIdeal.Value.resultArr (F := Ideal) codes cb pc ps bias = KernelIdeal.Value.resultArr codes cb pc ps bias := by
  funext y
  have h2 : (y 2).val < 512 := (y 2).isLt
  have hy : y = ix3 (n0 := 96) (n1 := 4096) (n2 := 512) (y 0) (y 1) ⟨256 * ((y 2).val / 256) + (y 2).val % 256, by omega⟩ := by
    funext a
    match a with
    | ⟨0, _⟩ => rfl
    | ⟨1, _⟩ => rfl
    | ⟨2, _⟩ => exact Fin.ext (by show (y 2).val = 256 * ((y 2).val / 256) + (y 2).val % 256; omega)
  exact (congrArg _ hy).trans (result_eq codes cb pc ps bias hr (y 0) (y 1) ⟨(y 2).val / 256, by omega⟩ ⟨(y 2).val % 256, by omega⟩)

/-- The precondition, all ones, bounds every code. -/
theorem range_of_pre (h : Cert.Pre_codes_in_range.fn (F := Ideal) codes cb pc ps bias = fun _ => 1#1) (i : S96x4096x32.Idx) :
    -1024 ≤ (codes i : BitVec 32).toInt ∧ (codes i : BitVec 32).toInt < 1024 := by
  have h1 : (BitVec.ofBool (decide ((4294966272#32 : BitVec 32).toInt ≤ (codes i : BitVec 32).toInt)))
      &&& (BitVec.ofBool (decide ((codes i : BitVec 32).toInt < (1024#32 : BitVec 32).toInt))) = 1#1 := congrFun h i
  rw [show (4294966272#32 : BitVec 32).toInt = -1024 from by decide, show (1024#32 : BitVec 32).toInt = 1024 from by decide] at h1
  by_cases ha : -1024 ≤ (codes i : BitVec 32).toInt <;> by_cases hb : (codes i : BitVec 32).toInt < 1024
  · exact ⟨ha, hb⟩
  · rw [decide_eq_true ha, decide_eq_false hb] at h1; exact absurd h1 (by decide)
  · rw [decide_eq_false ha, decide_eq_true hb] at h1; exact absurd h1 (by decide)
  · rw [decide_eq_false ha, decide_eq_false hb] at h1; exact absurd h1 (by decide)

end Cert.Equal

end
-- ==== Proof.lean ====
/-
  The proof of `Cert.Claim`: every program terminates without fault and leaves its arguments unchanged, the ideal
  program is the kernel over the extended reals, and the kernel and the reference compute the same function there.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_codes_in_range
public import proofs.«01_k».proof.Proof.Gen.KernelIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Both programs over the extended reals, started with equal arguments and codes of the range, end with equal results. -/
theorem algebraic : algebraic_KernelIdeal_ReferenceIdeal_pre_codes_in_range (hKernelIdeal := Cert.KernelIdeal.Gen.facts)
    (hReferenceIdeal := Cert.ReferenceIdeal.Gen.facts) (hPre_codes_in_range := Cert.Pre_codes_in_range.Gen.facts) := by
  intro m g m' g' hpre hargs
  refine ⟨_, Cert.KernelIdeal.Value.run m g, ?_⟩
  refine (θ_run _ _ _).mono (fun r h c => ⟨(h c).1.trans ?_, (h c).2⟩) (Cert.ReferenceIdeal.Value.run (F := Ideal) m' g')
  obtain ⟨e0, e1, e2, e3, e4⟩ := hargs c
  rw [e0, e1, e2, e3, e4]
  exact Cert.Equal.arr_eq _ _ _ _ _ (Cert.Equal.range_of_pre _ _ _ _ _ (hpre c))

/-- Every claim of the certificate. -/
theorem claim : Cert.Claim := ⟨Cert.Kernel.Gen.facts, Cert.KernelIdeal.Gen.facts, Cert.ReferenceIdeal.Gen.facts, Cert.Pre_codes_in_range.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  algebraic⟩

end Cert.Proof

end
